-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x2048 : Shape := ⟨2, ![4096, 2048]⟩
abbrev S128x2048 : Shape := ⟨2, ![128, 2048]⟩
abbrev S32x128x128 : Shape := ⟨3, ![32, 128, 128]⟩
abbrev S32x128 : Shape := ⟨2, ![32, 128]⟩
abbrev S1x128 : Shape := ⟨2, ![1, 128]⟩
abbrev S32 : Shape := ⟨1, ![32]⟩
abbrev S2 : Shape := ⟨1, ![2]⟩
abbrev S_ : Shape := ⟨0, ![]⟩
abbrev S1 : Shape := ⟨1, ![1]⟩
abbrev S1x128x128 : Shape := ⟨3, ![1, 128, 128]⟩
abbrev S128x128 : Shape := ⟨2, ![128, 128]⟩
abbrev S1x128x2048 : Shape := ⟨3, ![1, 128, 2048]⟩
abbrev S1x1x1 : Shape := ⟨3, ![1, 1, 1]⟩
abbrev S1x32x128 : Shape := ⟨3, ![1, 32, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S4096x2048, .f32⟩
  | .hbm, ⟨2, _⟩ => ⟨S128x2048, .f32⟩
  | .local _ .vmem, ⟨0, _⟩ => ⟨S4096x128, .f32⟩
  | .local _ .vmem, ⟨1, _⟩ => ⟨S4096x2048, .f32⟩
  | .local _ .vmem, ⟨2, _⟩ => ⟨S128x2048, .f32⟩
  | .local _ .vmem, ⟨3, _⟩ => ⟨S32x128x128, .f32⟩
  | .local _ .vmem, ⟨4, _⟩ => ⟨S128x2048, .f32⟩
  | .local _ .vmem, ⟨5, _⟩ => ⟨S32x128, .f32⟩
  | .local _ .vmem, ⟨6, _⟩ => ⟨S1x128, .f32⟩
  | _, _ => ⟨S4096x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 133 → Bool
  | ⟨i, _⟩ => dmaSemScopedAt i

abbrev sig : RefSig :=
  (ofTc nBuf bufTy 1 133 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_131 : BitVec 32 := 0#32
  let c0_i32_132 : BitVec 32 := 0#32
  ![v2.toNat, 0, 0]
def k0_off2 (d0 : Dev nD) (c1_i32_125 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v128 : BitVec 32 := Scalar.addi v2 c1_i32_125
  let c32_i32_126 : BitVec 32 := 32#32
  let v129 : BitVec 32 := Scalar.remsi v128 c32_i32_126
  let c128_i32 : BitVec 32 := 128#32
  let v130 : BitVec 32 := Scalar.muli v129 c128_i32
  let c0_i32_133 : BitVec 32 := 0#32
  ![v130.toNat, 0]
def k0_dev32 (d0 : Dev nD) : Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_125 : BitVec 32 := 1#32
  let v128 : BitVec 32 := Scalar.addi v2 c1_i32_125
  let c32_i32_126 : BitVec 32 := 32#32
  let v129 : BitVec 32 := Scalar.remsi v128 c32_i32_126
  let c1_i32_129 : BitVec 32 := 1#32
  let v131 : BitVec 32 := Scalar.muli v129 c1_i32_129
  let v132 : BitVec 32 := Scalar.addi c0_i32_130 v131
  v132.toNat
def k0_dev33 (d0 : Dev nD) : Nat :=
  let c0_i32_140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_134 : BitVec 32 := 2#32
  let v140 : BitVec 32 := Scalar.addi v2 c2_i32_134
  let c32_i32_135 : BitVec 32 := 32#32
  let v141 : BitVec 32 := Scalar.remsi v140 c32_i32_135
  let c1_i32_139 : BitVec 32 := 1#32
  let v143 : BitVec 32 := Scalar.muli v141 c1_i32_139
  let v144 : BitVec 32 := Scalar.addi c0_i32_140 v143
  v144.toNat
def k0_dev34 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_144 : BitVec 32 := 3#32
  let v152 : BitVec 32 := Scalar.addi v2 c3_i32_144
  let c32_i32_145 : BitVec 32 := 32#32
  let v153 : BitVec 32 := Scalar.remsi v152 c32_i32_145
  let c1_i32_149 : BitVec 32 := 1#32
  let v155 : BitVec 32 := Scalar.muli v153 c1_i32_149
  let v156 : BitVec 32 := Scalar.addi c0_i32_150 v155
  v156.toNat
def k0_dev35 (d0 : Dev nD) : Nat :=
  let c0_i32_160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_154 : BitVec 32 := 4#32
  let v164 : BitVec 32 := Scalar.addi v2 c4_i32_154
  let c32_i32_155 : BitVec 32 := 32#32
  let v165 : BitVec 32 := Scalar.remsi v164 c32_i32_155
  let c1_i32_159 : BitVec 32 := 1#32
  let v167 : BitVec 32 := Scalar.muli v165 c1_i32_159
  let v168 : BitVec 32 := Scalar.addi c0_i32_160 v167
  v168.toNat
def k0_dev36 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_164 : BitVec 32 := 5#32
  let v176 : BitVec 32 := Scalar.addi v2 c5_i32_164
  let c32_i32_165 : BitVec 32 := 32#32
  let v177 : BitVec 32 := Scalar.remsi v176 c32_i32_165
  let c1_i32_169 : BitVec 32 := 1#32
  let v179 : BitVec 32 := Scalar.muli v177 c1_i32_169
  let v180 : BitVec 32 := Scalar.addi c0_i32_170 v179
  v180.toNat
def k0_dev37 (d0 : Dev nD) : Nat :=
  let c0_i32_180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_174 : BitVec 32 := 6#32
  let v188 : BitVec 32 := Scalar.addi v2 c6_i32_174
  let c32_i32_175 : BitVec 32 := 32#32
  let v189 : BitVec 32 := Scalar.remsi v188 c32_i32_175
  let c1_i32_179 : BitVec 32 := 1#32
  let v191 : BitVec 32 := Scalar.muli v189 c1_i32_179
  let v192 : BitVec 32 := Scalar.addi c0_i32_180 v191
  v192.toNat
def k0_dev38 (d0 : Dev nD) : Nat :=
  let c0_i32_190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_184 : BitVec 32 := 7#32
  let v200 : BitVec 32 := Scalar.addi v2 c7_i32_184
  let c32_i32_185 : BitVec 32 := 32#32
  let v201 : BitVec 32 := Scalar.remsi v200 c32_i32_185
  let c1_i32_189 : BitVec 32 := 1#32
  let v203 : BitVec 32 := Scalar.muli v201 c1_i32_189
  let v204 : BitVec 32 := Scalar.addi c0_i32_190 v203
  v204.toNat
def k0_dev39 (d0 : Dev nD) : Nat :=
  let c0_i32_200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_194 : BitVec 32 := 8#32
  let v212 : BitVec 32 := Scalar.addi v2 c8_i32_194
  let c32_i32_195 : BitVec 32 := 32#32
  let v213 : BitVec 32 := Scalar.remsi v212 c32_i32_195
  let c1_i32_199 : BitVec 32 := 1#32
  let v215 : BitVec 32 := Scalar.muli v213 c1_i32_199
  let v216 : BitVec 32 := Scalar.addi c0_i32_200 v215
  v216.toNat
def k0_dev40 (d0 : Dev nD) : Nat :=
  let c0_i32_210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_204 : BitVec 32 := 9#32
  let v224 : BitVec 32 := Scalar.addi v2 c9_i32_204
  let c32_i32_205 : BitVec 32 := 32#32
  let v225 : BitVec 32 := Scalar.remsi v224 c32_i32_205
  let c1_i32_209 : BitVec 32 := 1#32
  let v227 : BitVec 32 := Scalar.muli v225 c1_i32_209
  let v228 : BitVec 32 := Scalar.addi c0_i32_210 v227
  v228.toNat
def k0_dev41 (d0 : Dev nD) : Nat :=
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_214 : BitVec 32 := 10#32
  let v236 : BitVec 32 := Scalar.addi v2 c10_i32_214
  let c32_i32_215 : BitVec 32 := 32#32
  let v237 : BitVec 32 := Scalar.remsi v236 c32_i32_215
  let c1_i32_219 : BitVec 32 := 1#32
  let v239 : BitVec 32 := Scalar.muli v237 c1_i32_219
  let v240 : BitVec 32 := Scalar.addi c0_i32_220 v239
  v240.toNat
def k0_dev42 (d0 : Dev nD) : Nat :=
  let c0_i32_230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_224 : BitVec 32 := 11#32
  let v248 : BitVec 32 := Scalar.addi v2 c11_i32_224
  let c32_i32_225 : BitVec 32 := 32#32
  let v249 : BitVec 32 := Scalar.remsi v248 c32_i32_225
  let c1_i32_229 : BitVec 32 := 1#32
  let v251 : BitVec 32 := Scalar.muli v249 c1_i32_229
  let v252 : BitVec 32 := Scalar.addi c0_i32_230 v251
  v252.toNat
def k0_dev43 (d0 : Dev nD) : Nat :=
  let c0_i32_240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_234 : BitVec 32 := 12#32
  let v260 : BitVec 32 := Scalar.addi v2 c12_i32_234
  let c32_i32_235 : BitVec 32 := 32#32
  let v261 : BitVec 32 := Scalar.remsi v260 c32_i32_235
  let c1_i32_239 : BitVec 32 := 1#32
  let v263 : BitVec 32 := Scalar.muli v261 c1_i32_239
  let v264 : BitVec 32 := Scalar.addi c0_i32_240 v263
  v264.toNat
def k0_dev44 (d0 : Dev nD) : Nat :=
  let c0_i32_250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_244 : BitVec 32 := 13#32
  let v272 : BitVec 32 := Scalar.addi v2 c13_i32_244
  let c32_i32_245 : BitVec 32 := 32#32
  let v273 : BitVec 32 := Scalar.remsi v272 c32_i32_245
  let c1_i32_249 : BitVec 32 := 1#32
  let v275 : BitVec 32 := Scalar.muli v273 c1_i32_249
  let v276 : BitVec 32 := Scalar.addi c0_i32_250 v275
  v276.toNat
def k0_dev45 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_254 : BitVec 32 := 14#32
  let v284 : BitVec 32 := Scalar.addi v2 c14_i32_254
  let c32_i32_255 : BitVec 32 := 32#32
  let v285 : BitVec 32 := Scalar.remsi v284 c32_i32_255
  let c1_i32_259 : BitVec 32 := 1#32
  let v287 : BitVec 32 := Scalar.muli v285 c1_i32_259
  let v288 : BitVec 32 := Scalar.addi c0_i32_260 v287
  v288.toNat
def k0_dev46 (d0 : Dev nD) : Nat :=
  let c0_i32_270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_264 : BitVec 32 := 15#32
  let v296 : BitVec 32 := Scalar.addi v2 c15_i32_264
  let c32_i32_265 : BitVec 32 := 32#32
  let v297 : BitVec 32 := Scalar.remsi v296 c32_i32_265
  let c1_i32_269 : BitVec 32 := 1#32
  let v299 : BitVec 32 := Scalar.muli v297 c1_i32_269
  let v300 : BitVec 32 := Scalar.addi c0_i32_270 v299
  v300.toNat
def k0_dev47 (d0 : Dev nD) : Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_274 : BitVec 32 := 16#32
  let v308 : BitVec 32 := Scalar.addi v2 c16_i32_274
  let c32_i32_275 : BitVec 32 := 32#32
  let v309 : BitVec 32 := Scalar.remsi v308 c32_i32_275
  let c1_i32_279 : BitVec 32 := 1#32
  let v311 : BitVec 32 := Scalar.muli v309 c1_i32_279
  let v312 : BitVec 32 := Scalar.addi c0_i32_280 v311
  v312.toNat
def k0_dev48 (d0 : Dev nD) : Nat :=
  let c0_i32_290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_284 : BitVec 32 := 17#32
  let v320 : BitVec 32 := Scalar.addi v2 c17_i32_284
  let c32_i32_285 : BitVec 32 := 32#32
  let v321 : BitVec 32 := Scalar.remsi v320 c32_i32_285
  let c1_i32_289 : BitVec 32 := 1#32
  let v323 : BitVec 32 := Scalar.muli v321 c1_i32_289
  let v324 : BitVec 32 := Scalar.addi c0_i32_290 v323
  v324.toNat
def k0_dev49 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_294 : BitVec 32 := 18#32
  let v332 : BitVec 32 := Scalar.addi v2 c18_i32_294
  let c32_i32_295 : BitVec 32 := 32#32
  let v333 : BitVec 32 := Scalar.remsi v332 c32_i32_295
  let c1_i32_299 : BitVec 32 := 1#32
  let v335 : BitVec 32 := Scalar.muli v333 c1_i32_299
  let v336 : BitVec 32 := Scalar.addi c0_i32_300 v335
  v336.toNat
def k0_dev50 (d0 : Dev nD) : Nat :=
  let c0_i32_310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_304 : BitVec 32 := 19#32
  let v344 : BitVec 32 := Scalar.addi v2 c19_i32_304
  let c32_i32_305 : BitVec 32 := 32#32
  let v345 : BitVec 32 := Scalar.remsi v344 c32_i32_305
  let c1_i32_309 : BitVec 32 := 1#32
  let v347 : BitVec 32 := Scalar.muli v345 c1_i32_309
  let v348 : BitVec 32 := Scalar.addi c0_i32_310 v347
  v348.toNat
def k0_dev51 (d0 : Dev nD) : Nat :=
  let c0_i32_320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_314 : BitVec 32 := 20#32
  let v356 : BitVec 32 := Scalar.addi v2 c20_i32_314
  let c32_i32_315 : BitVec 32 := 32#32
  let v357 : BitVec 32 := Scalar.remsi v356 c32_i32_315
  let c1_i32_319 : BitVec 32 := 1#32
  let v359 : BitVec 32 := Scalar.muli v357 c1_i32_319
  let v360 : BitVec 32 := Scalar.addi c0_i32_320 v359
  v360.toNat
def k0_dev52 (d0 : Dev nD) : Nat :=
  let c0_i32_330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_324 : BitVec 32 := 21#32
  let v368 : BitVec 32 := Scalar.addi v2 c21_i32_324
  let c32_i32_325 : BitVec 32 := 32#32
  let v369 : BitVec 32 := Scalar.remsi v368 c32_i32_325
  let c1_i32_329 : BitVec 32 := 1#32
  let v371 : BitVec 32 := Scalar.muli v369 c1_i32_329
  let v372 : BitVec 32 := Scalar.addi c0_i32_330 v371
  v372.toNat
def k0_dev53 (d0 : Dev nD) : Nat :=
  let c0_i32_340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_334 : BitVec 32 := 22#32
  let v380 : BitVec 32 := Scalar.addi v2 c22_i32_334
  let c32_i32_335 : BitVec 32 := 32#32
  let v381 : BitVec 32 := Scalar.remsi v380 c32_i32_335
  let c1_i32_339 : BitVec 32 := 1#32
  let v383 : BitVec 32 := Scalar.muli v381 c1_i32_339
  let v384 : BitVec 32 := Scalar.addi c0_i32_340 v383
  v384.toNat
def k0_dev54 (d0 : Dev nD) : Nat :=
  let c0_i32_350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_344 : BitVec 32 := 23#32
  let v392 : BitVec 32 := Scalar.addi v2 c23_i32_344
  let c32_i32_345 : BitVec 32 := 32#32
  let v393 : BitVec 32 := Scalar.remsi v392 c32_i32_345
  let c1_i32_349 : BitVec 32 := 1#32
  let v395 : BitVec 32 := Scalar.muli v393 c1_i32_349
  let v396 : BitVec 32 := Scalar.addi c0_i32_350 v395
  v396.toNat
def k0_dev55 (d0 : Dev nD) : Nat :=
  let c0_i32_360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_354 : BitVec 32 := 24#32
  let v404 : BitVec 32 := Scalar.addi v2 c24_i32_354
  let c32_i32_355 : BitVec 32 := 32#32
  let v405 : BitVec 32 := Scalar.remsi v404 c32_i32_355
  let c1_i32_359 : BitVec 32 := 1#32
  let v407 : BitVec 32 := Scalar.muli v405 c1_i32_359
  let v408 : BitVec 32 := Scalar.addi c0_i32_360 v407
  v408.toNat
def k0_dev56 (d0 : Dev nD) : Nat :=
  let c0_i32_370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_364 : BitVec 32 := 25#32
  let v416 : BitVec 32 := Scalar.addi v2 c25_i32_364
  let c32_i32_365 : BitVec 32 := 32#32
  let v417 : BitVec 32 := Scalar.remsi v416 c32_i32_365
  let c1_i32_369 : BitVec 32 := 1#32
  let v419 : BitVec 32 := Scalar.muli v417 c1_i32_369
  let v420 : BitVec 32 := Scalar.addi c0_i32_370 v419
  v420.toNat
def k0_dev57 (d0 : Dev nD) : Nat :=
  let c0_i32_380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_374 : BitVec 32 := 26#32
  let v428 : BitVec 32 := Scalar.addi v2 c26_i32_374
  let c32_i32_375 : BitVec 32 := 32#32
  let v429 : BitVec 32 := Scalar.remsi v428 c32_i32_375
  let c1_i32_379 : BitVec 32 := 1#32
  let v431 : BitVec 32 := Scalar.muli v429 c1_i32_379
  let v432 : BitVec 32 := Scalar.addi c0_i32_380 v431
  v432.toNat
def k0_dev58 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_384 : BitVec 32 := 27#32
  let v440 : BitVec 32 := Scalar.addi v2 c27_i32_384
  let c32_i32_385 : BitVec 32 := 32#32
  let v441 : BitVec 32 := Scalar.remsi v440 c32_i32_385
  let c1_i32_389 : BitVec 32 := 1#32
  let v443 : BitVec 32 := Scalar.muli v441 c1_i32_389
  let v444 : BitVec 32 := Scalar.addi c0_i32_390 v443
  v444.toNat
def k0_dev59 (d0 : Dev nD) : Nat :=
  let c0_i32_400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_394 : BitVec 32 := 28#32
  let v452 : BitVec 32 := Scalar.addi v2 c28_i32_394
  let c32_i32_395 : BitVec 32 := 32#32
  let v453 : BitVec 32 := Scalar.remsi v452 c32_i32_395
  let c1_i32_399 : BitVec 32 := 1#32
  let v455 : BitVec 32 := Scalar.muli v453 c1_i32_399
  let v456 : BitVec 32 := Scalar.addi c0_i32_400 v455
  v456.toNat
def k0_dev60 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_404 : BitVec 32 := 29#32
  let v464 : BitVec 32 := Scalar.addi v2 c29_i32_404
  let c32_i32_405 : BitVec 32 := 32#32
  let v465 : BitVec 32 := Scalar.remsi v464 c32_i32_405
  let c1_i32_409 : BitVec 32 := 1#32
  let v467 : BitVec 32 := Scalar.muli v465 c1_i32_409
  let v468 : BitVec 32 := Scalar.addi c0_i32_410 v467
  v468.toNat
def k0_dev61 (d0 : Dev nD) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_414 : BitVec 32 := 30#32
  let v476 : BitVec 32 := Scalar.addi v2 c30_i32_414
  let c32_i32_415 : BitVec 32 := 32#32
  let v477 : BitVec 32 := Scalar.remsi v476 c32_i32_415
  let c1_i32_419 : BitVec 32 := 1#32
  let v479 : BitVec 32 := Scalar.muli v477 c1_i32_419
  let v480 : BitVec 32 := Scalar.addi c0_i32_420 v479
  v480.toNat
def k0_dev62 (d0 : Dev nD) : Nat :=
  let c0_i32_430 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_424 : BitVec 32 := 31#32
  let v488 : BitVec 32 := Scalar.addi v2 c31_i32_424
  let c32_i32_425 : BitVec 32 := 32#32
  let v489 : BitVec 32 := Scalar.remsi v488 c32_i32_425
  let c1_i32_429 : BitVec 32 := 1#32
  let v491 : BitVec 32 := Scalar.muli v489 c1_i32_429
  let v492 : BitVec 32 := Scalar.addi c0_i32_430 v491
  v492.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_434 : BitVec 32 := 128#32
  let v500 : BitVec 32 := Scalar.muli v2 c128_i32_434
  let c0_i32_438 : BitVec 32 := 0#32
  ![v500.toNat, 0]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v511 : Index := Scalar.indexCast v2
  let c0 : Index := 0#32
  let c0_443 : Index := 0#32
  ![v511.toNat, 0, 0]
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_444 : BitVec 32 := 128#32
  let v514 : BitVec 32 := Scalar.muli v2 c128_i32_444
  let v515 : Index := Scalar.indexCast v514
  let c0_445 : Index := 0#32
  ![v515.toNat, 0]
def k0_off6 (d0 : Dev nD) (c1_i32_448 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v522 : BitVec 32 := Scalar.subi v2 c1_i32_448
  let c32_i32_449 : BitVec 32 := 32#32
  let v523 : BitVec 32 := Scalar.addi v522 c32_i32_449
  let c32_i32_450 : BitVec 32 := 32#32
  let v524 : BitVec 32 := Scalar.remsi v523 c32_i32_450
  let c0_i32_455 : BitVec 32 := 0#32
  let c0_i32_456 : BitVec 32 := 0#32
  ![v524.toNat, 0, 0]
def k0_off7 (d0 : Dev nD) (c1_i32_448 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v522 : BitVec 32 := Scalar.subi v2 c1_i32_448
  let c32_i32_449 : BitVec 32 := 32#32
  let v523 : BitVec 32 := Scalar.addi v522 c32_i32_449
  let c32_i32_450 : BitVec 32 := 32#32
  let v524 : BitVec 32 := Scalar.remsi v523 c32_i32_450
  let v533 : Index := Scalar.indexCast v524
  let c0_461 : Index := 0#32
  let c0_462 : Index := 0#32
  ![v533.toNat, 0, 0]
def k0_off8 (d0 : Dev nD) (c1_i32_448 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v522 : BitVec 32 := Scalar.subi v2 c1_i32_448
  let c32_i32_449 : BitVec 32 := 32#32
  let v523 : BitVec 32 := Scalar.addi v522 c32_i32_449
  let c32_i32_450 : BitVec 32 := 32#32
  let v524 : BitVec 32 := Scalar.remsi v523 c32_i32_450
  let c128_i32_463 : BitVec 32 := 128#32
  let v536 : BitVec 32 := Scalar.muli v524 c128_i32_463
  let v537 : Index := Scalar.indexCast v536
  let c0_464 : Index := 0#32
  ![v537.toNat, 0]
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1074 : BitVec 32 := 0#32
  ![v2.toNat, 0]
def k0_dev63 (d0 : Dev nD) : Nat :=
  let c0_i32_1080 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1075 : BitVec 32 := 1#32
  let v1248 : BitVec 32 := Scalar.addi v2 c1_i32_1075
  let c32_i32_1076 : BitVec 32 := 32#32
  let v1249 : BitVec 32 := Scalar.remsi v1248 c32_i32_1076
  let c1_i32_1079 : BitVec 32 := 1#32
  let v1250 : BitVec 32 := Scalar.muli v1249 c1_i32_1079
  let v1251 : BitVec 32 := Scalar.addi c0_i32_1080 v1250
  v1251.toNat
def k0_dev64 (d0 : Dev nD) : Nat :=
  let c0_i32_1087 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1082 : BitVec 32 := 2#32
  let v1257 : BitVec 32 := Scalar.addi v2 c2_i32_1082
  let c32_i32_1083 : BitVec 32 := 32#32
  let v1258 : BitVec 32 := Scalar.remsi v1257 c32_i32_1083
  let c1_i32_1086 : BitVec 32 := 1#32
  let v1259 : BitVec 32 := Scalar.muli v1258 c1_i32_1086
  let v1260 : BitVec 32 := Scalar.addi c0_i32_1087 v1259
  v1260.toNat
def k0_dev65 (d0 : Dev nD) : Nat :=
  let c0_i32_1094 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1089 : BitVec 32 := 3#32
  let v1266 : BitVec 32 := Scalar.addi v2 c3_i32_1089
  let c32_i32_1090 : BitVec 32 := 32#32
  let v1267 : BitVec 32 := Scalar.remsi v1266 c32_i32_1090
  let c1_i32_1093 : BitVec 32 := 1#32
  let v1268 : BitVec 32 := Scalar.muli v1267 c1_i32_1093
  let v1269 : BitVec 32 := Scalar.addi c0_i32_1094 v1268
  v1269.toNat
def k0_dev66 (d0 : Dev nD) : Nat :=
  let c0_i32_1101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1096 : BitVec 32 := 4#32
  let v1275 : BitVec 32 := Scalar.addi v2 c4_i32_1096
  let c32_i32_1097 : BitVec 32 := 32#32
  let v1276 : BitVec 32 := Scalar.remsi v1275 c32_i32_1097
  let c1_i32_1100 : BitVec 32 := 1#32
  let v1277 : BitVec 32 := Scalar.muli v1276 c1_i32_1100
  let v1278 : BitVec 32 := Scalar.addi c0_i32_1101 v1277
  v1278.toNat
def k0_dev67 (d0 : Dev nD) : Nat :=
  let c0_i32_1108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1103 : BitVec 32 := 5#32
  let v1284 : BitVec 32 := Scalar.addi v2 c5_i32_1103
  let c32_i32_1104 : BitVec 32 := 32#32
  let v1285 : BitVec 32 := Scalar.remsi v1284 c32_i32_1104
  let c1_i32_1107 : BitVec 32 := 1#32
  let v1286 : BitVec 32 := Scalar.muli v1285 c1_i32_1107
  let v1287 : BitVec 32 := Scalar.addi c0_i32_1108 v1286
  v1287.toNat
def k0_dev68 (d0 : Dev nD) : Nat :=
  let c0_i32_1115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1110 : BitVec 32 := 6#32
  let v1293 : BitVec 32 := Scalar.addi v2 c6_i32_1110
  let c32_i32_1111 : BitVec 32 := 32#32
  let v1294 : BitVec 32 := Scalar.remsi v1293 c32_i32_1111
  let c1_i32_1114 : BitVec 32 := 1#32
  let v1295 : BitVec 32 := Scalar.muli v1294 c1_i32_1114
  let v1296 : BitVec 32 := Scalar.addi c0_i32_1115 v1295
  v1296.toNat
def k0_dev69 (d0 : Dev nD) : Nat :=
  let c0_i32_1122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1117 : BitVec 32 := 7#32
  let v1302 : BitVec 32 := Scalar.addi v2 c7_i32_1117
  let c32_i32_1118 : BitVec 32 := 32#32
  let v1303 : BitVec 32 := Scalar.remsi v1302 c32_i32_1118
  let c1_i32_1121 : BitVec 32 := 1#32
  let v1304 : BitVec 32 := Scalar.muli v1303 c1_i32_1121
  let v1305 : BitVec 32 := Scalar.addi c0_i32_1122 v1304
  v1305.toNat
def k0_dev70 (d0 : Dev nD) : Nat :=
  let c0_i32_1129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1124 : BitVec 32 := 8#32
  let v1311 : BitVec 32 := Scalar.addi v2 c8_i32_1124
  let c32_i32_1125 : BitVec 32 := 32#32
  let v1312 : BitVec 32 := Scalar.remsi v1311 c32_i32_1125
  let c1_i32_1128 : BitVec 32 := 1#32
  let v1313 : BitVec 32 := Scalar.muli v1312 c1_i32_1128
  let v1314 : BitVec 32 := Scalar.addi c0_i32_1129 v1313
  v1314.toNat
def k0_dev71 (d0 : Dev nD) : Nat :=
  let c0_i32_1136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1131 : BitVec 32 := 9#32
  let v1320 : BitVec 32 := Scalar.addi v2 c9_i32_1131
  let c32_i32_1132 : BitVec 32 := 32#32
  let v1321 : BitVec 32 := Scalar.remsi v1320 c32_i32_1132
  let c1_i32_1135 : BitVec 32 := 1#32
  let v1322 : BitVec 32 := Scalar.muli v1321 c1_i32_1135
  let v1323 : BitVec 32 := Scalar.addi c0_i32_1136 v1322
  v1323.toNat
def k0_dev72 (d0 : Dev nD) : Nat :=
  let c0_i32_1143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1138 : BitVec 32 := 10#32
  let v1329 : BitVec 32 := Scalar.addi v2 c10_i32_1138
  let c32_i32_1139 : BitVec 32 := 32#32
  let v1330 : BitVec 32 := Scalar.remsi v1329 c32_i32_1139
  let c1_i32_1142 : BitVec 32 := 1#32
  let v1331 : BitVec 32 := Scalar.muli v1330 c1_i32_1142
  let v1332 : BitVec 32 := Scalar.addi c0_i32_1143 v1331
  v1332.toNat
def k0_dev73 (d0 : Dev nD) : Nat :=
  let c0_i32_1150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1145 : BitVec 32 := 11#32
  let v1338 : BitVec 32 := Scalar.addi v2 c11_i32_1145
  let c32_i32_1146 : BitVec 32 := 32#32
  let v1339 : BitVec 32 := Scalar.remsi v1338 c32_i32_1146
  let c1_i32_1149 : BitVec 32 := 1#32
  let v1340 : BitVec 32 := Scalar.muli v1339 c1_i32_1149
  let v1341 : BitVec 32 := Scalar.addi c0_i32_1150 v1340
  v1341.toNat
def k0_dev74 (d0 : Dev nD) : Nat :=
  let c0_i32_1157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1152 : BitVec 32 := 12#32
  let v1347 : BitVec 32 := Scalar.addi v2 c12_i32_1152
  let c32_i32_1153 : BitVec 32 := 32#32
  let v1348 : BitVec 32 := Scalar.remsi v1347 c32_i32_1153
  let c1_i32_1156 : BitVec 32 := 1#32
  let v1349 : BitVec 32 := Scalar.muli v1348 c1_i32_1156
  let v1350 : BitVec 32 := Scalar.addi c0_i32_1157 v1349
  v1350.toNat
def k0_dev75 (d0 : Dev nD) : Nat :=
  let c0_i32_1164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1159 : BitVec 32 := 13#32
  let v1356 : BitVec 32 := Scalar.addi v2 c13_i32_1159
  let c32_i32_1160 : BitVec 32 := 32#32
  let v1357 : BitVec 32 := Scalar.remsi v1356 c32_i32_1160
  let c1_i32_1163 : BitVec 32 := 1#32
  let v1358 : BitVec 32 := Scalar.muli v1357 c1_i32_1163
  let v1359 : BitVec 32 := Scalar.addi c0_i32_1164 v1358
  v1359.toNat
def k0_dev76 (d0 : Dev nD) : Nat :=
  let c0_i32_1171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1166 : BitVec 32 := 14#32
  let v1365 : BitVec 32 := Scalar.addi v2 c14_i32_1166
  let c32_i32_1167 : BitVec 32 := 32#32
  let v1366 : BitVec 32 := Scalar.remsi v1365 c32_i32_1167
  let c1_i32_1170 : BitVec 32 := 1#32
  let v1367 : BitVec 32 := Scalar.muli v1366 c1_i32_1170
  let v1368 : BitVec 32 := Scalar.addi c0_i32_1171 v1367
  v1368.toNat
def k0_dev77 (d0 : Dev nD) : Nat :=
  let c0_i32_1178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1173 : BitVec 32 := 15#32
  let v1374 : BitVec 32 := Scalar.addi v2 c15_i32_1173
  let c32_i32_1174 : BitVec 32 := 32#32
  let v1375 : BitVec 32 := Scalar.remsi v1374 c32_i32_1174
  let c1_i32_1177 : BitVec 32 := 1#32
  let v1376 : BitVec 32 := Scalar.muli v1375 c1_i32_1177
  let v1377 : BitVec 32 := Scalar.addi c0_i32_1178 v1376
  v1377.toNat
def k0_dev78 (d0 : Dev nD) : Nat :=
  let c0_i32_1185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1180 : BitVec 32 := 16#32
  let v1383 : BitVec 32 := Scalar.addi v2 c16_i32_1180
  let c32_i32_1181 : BitVec 32 := 32#32
  let v1384 : BitVec 32 := Scalar.remsi v1383 c32_i32_1181
  let c1_i32_1184 : BitVec 32 := 1#32
  let v1385 : BitVec 32 := Scalar.muli v1384 c1_i32_1184
  let v1386 : BitVec 32 := Scalar.addi c0_i32_1185 v1385
  v1386.toNat
def k0_dev79 (d0 : Dev nD) : Nat :=
  let c0_i32_1192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1187 : BitVec 32 := 17#32
  let v1392 : BitVec 32 := Scalar.addi v2 c17_i32_1187
  let c32_i32_1188 : BitVec 32 := 32#32
  let v1393 : BitVec 32 := Scalar.remsi v1392 c32_i32_1188
  let c1_i32_1191 : BitVec 32 := 1#32
  let v1394 : BitVec 32 := Scalar.muli v1393 c1_i32_1191
  let v1395 : BitVec 32 := Scalar.addi c0_i32_1192 v1394
  v1395.toNat
def k0_dev80 (d0 : Dev nD) : Nat :=
  let c0_i32_1199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1194 : BitVec 32 := 18#32
  let v1401 : BitVec 32 := Scalar.addi v2 c18_i32_1194
  let c32_i32_1195 : BitVec 32 := 32#32
  let v1402 : BitVec 32 := Scalar.remsi v1401 c32_i32_1195
  let c1_i32_1198 : BitVec 32 := 1#32
  let v1403 : BitVec 32 := Scalar.muli v1402 c1_i32_1198
  let v1404 : BitVec 32 := Scalar.addi c0_i32_1199 v1403
  v1404.toNat
def k0_dev81 (d0 : Dev nD) : Nat :=
  let c0_i32_1206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1201 : BitVec 32 := 19#32
  let v1410 : BitVec 32 := Scalar.addi v2 c19_i32_1201
  let c32_i32_1202 : BitVec 32 := 32#32
  let v1411 : BitVec 32 := Scalar.remsi v1410 c32_i32_1202
  let c1_i32_1205 : BitVec 32 := 1#32
  let v1412 : BitVec 32 := Scalar.muli v1411 c1_i32_1205
  let v1413 : BitVec 32 := Scalar.addi c0_i32_1206 v1412
  v1413.toNat
def k0_dev82 (d0 : Dev nD) : Nat :=
  let c0_i32_1213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1208 : BitVec 32 := 20#32
  let v1419 : BitVec 32 := Scalar.addi v2 c20_i32_1208
  let c32_i32_1209 : BitVec 32 := 32#32
  let v1420 : BitVec 32 := Scalar.remsi v1419 c32_i32_1209
  let c1_i32_1212 : BitVec 32 := 1#32
  let v1421 : BitVec 32 := Scalar.muli v1420 c1_i32_1212
  let v1422 : BitVec 32 := Scalar.addi c0_i32_1213 v1421
  v1422.toNat
def k0_dev83 (d0 : Dev nD) : Nat :=
  let c0_i32_1220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1215 : BitVec 32 := 21#32
  let v1428 : BitVec 32 := Scalar.addi v2 c21_i32_1215
  let c32_i32_1216 : BitVec 32 := 32#32
  let v1429 : BitVec 32 := Scalar.remsi v1428 c32_i32_1216
  let c1_i32_1219 : BitVec 32 := 1#32
  let v1430 : BitVec 32 := Scalar.muli v1429 c1_i32_1219
  let v1431 : BitVec 32 := Scalar.addi c0_i32_1220 v1430
  v1431.toNat
def k0_dev84 (d0 : Dev nD) : Nat :=
  let c0_i32_1227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1222 : BitVec 32 := 22#32
  let v1437 : BitVec 32 := Scalar.addi v2 c22_i32_1222
  let c32_i32_1223 : BitVec 32 := 32#32
  let v1438 : BitVec 32 := Scalar.remsi v1437 c32_i32_1223
  let c1_i32_1226 : BitVec 32 := 1#32
  let v1439 : BitVec 32 := Scalar.muli v1438 c1_i32_1226
  let v1440 : BitVec 32 := Scalar.addi c0_i32_1227 v1439
  v1440.toNat
def k0_dev85 (d0 : Dev nD) : Nat :=
  let c0_i32_1234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1229 : BitVec 32 := 23#32
  let v1446 : BitVec 32 := Scalar.addi v2 c23_i32_1229
  let c32_i32_1230 : BitVec 32 := 32#32
  let v1447 : BitVec 32 := Scalar.remsi v1446 c32_i32_1230
  let c1_i32_1233 : BitVec 32 := 1#32
  let v1448 : BitVec 32 := Scalar.muli v1447 c1_i32_1233
  let v1449 : BitVec 32 := Scalar.addi c0_i32_1234 v1448
  v1449.toNat
def k0_dev86 (d0 : Dev nD) : Nat :=
  let c0_i32_1241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1236 : BitVec 32 := 24#32
  let v1455 : BitVec 32 := Scalar.addi v2 c24_i32_1236
  let c32_i32_1237 : BitVec 32 := 32#32
  let v1456 : BitVec 32 := Scalar.remsi v1455 c32_i32_1237
  let c1_i32_1240 : BitVec 32 := 1#32
  let v1457 : BitVec 32 := Scalar.muli v1456 c1_i32_1240
  let v1458 : BitVec 32 := Scalar.addi c0_i32_1241 v1457
  v1458.toNat
def k0_dev87 (d0 : Dev nD) : Nat :=
  let c0_i32_1248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1243 : BitVec 32 := 25#32
  let v1464 : BitVec 32 := Scalar.addi v2 c25_i32_1243
  let c32_i32_1244 : BitVec 32 := 32#32
  let v1465 : BitVec 32 := Scalar.remsi v1464 c32_i32_1244
  let c1_i32_1247 : BitVec 32 := 1#32
  let v1466 : BitVec 32 := Scalar.muli v1465 c1_i32_1247
  let v1467 : BitVec 32 := Scalar.addi c0_i32_1248 v1466
  v1467.toNat
def k0_dev88 (d0 : Dev nD) : Nat :=
  let c0_i32_1255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1250 : BitVec 32 := 26#32
  let v1473 : BitVec 32 := Scalar.addi v2 c26_i32_1250
  let c32_i32_1251 : BitVec 32 := 32#32
  let v1474 : BitVec 32 := Scalar.remsi v1473 c32_i32_1251
  let c1_i32_1254 : BitVec 32 := 1#32
  let v1475 : BitVec 32 := Scalar.muli v1474 c1_i32_1254
  let v1476 : BitVec 32 := Scalar.addi c0_i32_1255 v1475
  v1476.toNat
def k0_dev89 (d0 : Dev nD) : Nat :=
  let c0_i32_1262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1257 : BitVec 32 := 27#32
  let v1482 : BitVec 32 := Scalar.addi v2 c27_i32_1257
  let c32_i32_1258 : BitVec 32 := 32#32
  let v1483 : BitVec 32 := Scalar.remsi v1482 c32_i32_1258
  let c1_i32_1261 : BitVec 32 := 1#32
  let v1484 : BitVec 32 := Scalar.muli v1483 c1_i32_1261
  let v1485 : BitVec 32 := Scalar.addi c0_i32_1262 v1484
  v1485.toNat
def k0_dev90 (d0 : Dev nD) : Nat :=
  let c0_i32_1269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1264 : BitVec 32 := 28#32
  let v1491 : BitVec 32 := Scalar.addi v2 c28_i32_1264
  let c32_i32_1265 : BitVec 32 := 32#32
  let v1492 : BitVec 32 := Scalar.remsi v1491 c32_i32_1265
  let c1_i32_1268 : BitVec 32 := 1#32
  let v1493 : BitVec 32 := Scalar.muli v1492 c1_i32_1268
  let v1494 : BitVec 32 := Scalar.addi c0_i32_1269 v1493
  v1494.toNat
def k0_dev91 (d0 : Dev nD) : Nat :=
  let c0_i32_1276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1271 : BitVec 32 := 29#32
  let v1500 : BitVec 32 := Scalar.addi v2 c29_i32_1271
  let c32_i32_1272 : BitVec 32 := 32#32
  let v1501 : BitVec 32 := Scalar.remsi v1500 c32_i32_1272
  let c1_i32_1275 : BitVec 32 := 1#32
  let v1502 : BitVec 32 := Scalar.muli v1501 c1_i32_1275
  let v1503 : BitVec 32 := Scalar.addi c0_i32_1276 v1502
  v1503.toNat
def k0_dev92 (d0 : Dev nD) : Nat :=
  let c0_i32_1283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1278 : BitVec 32 := 30#32
  let v1509 : BitVec 32 := Scalar.addi v2 c30_i32_1278
  let c32_i32_1279 : BitVec 32 := 32#32
  let v1510 : BitVec 32 := Scalar.remsi v1509 c32_i32_1279
  let c1_i32_1282 : BitVec 32 := 1#32
  let v1511 : BitVec 32 := Scalar.muli v1510 c1_i32_1282
  let v1512 : BitVec 32 := Scalar.addi c0_i32_1283 v1511
  v1512.toNat
def k0_dev93 (d0 : Dev nD) : Nat :=
  let c0_i32_1290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1285 : BitVec 32 := 31#32
  let v1518 : BitVec 32 := Scalar.addi v2 c31_i32_1285
  let c32_i32_1286 : BitVec 32 := 32#32
  let v1519 : BitVec 32 := Scalar.remsi v1518 c32_i32_1286
  let c1_i32_1289 : BitVec 32 := 1#32
  let v1520 : BitVec 32 := Scalar.muli v1519 c1_i32_1289
  let v1521 : BitVec 32 := Scalar.addi c0_i32_1290 v1520
  v1521.toNat
def k0_off10 (d0 : Dev nD) (c1_i32_1294 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1530 : BitVec 32 := Scalar.subi v2 c1_i32_1294
  let c32_i32_1295 : BitVec 32 := 32#32
  let v1531 : BitVec 32 := Scalar.addi v1530 c32_i32_1295
  let c32_i32_1296 : BitVec 32 := 32#32
  let v1532 : BitVec 32 := Scalar.remsi v1531 c32_i32_1296
  let c0_i32_1301 : BitVec 32 := 0#32
  ![v1532.toNat, 0]
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Places.lean ====
/-
# Places: devices, buffers, semaphores and contents of the exchange

Thirty-two devices hold a column block of `x` and the whole of `w`.  Every device cuts its block into 32 row blocks and
sends the row block of each other device to it; the receiver keeps one slot per source.  This module names the peers,
the pieces of the buffers, the semaphores and what the buffers hold; nothing here speaks about a run.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueIdxCore
public import Idealize.ShloMosaic.Lib.ValueLayout
public import Idealize.ShloMosaic.Lib.ViewIndex
public import Idealize.ShloMosaic.Lib.Pipeline.Value
public import Idealize.ShloMosaic.Lib.Pipeline.ValueKit.Geometry

@[expose] public section

noncomputable section

namespace Cert.Exchange

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's own rounds and the exchange's, whose duties are numbered by the 31 steps. -/
abbrev UB : Type := URounds (GSem nD τ sig) (Fin 31)
/-- The two together. -/
abbrev UU : Type := UR sig nD τ × UB

local notation "𝕄" => MT nD τ sig Unit (Elt F) ℕ UU ℕ

/-- The pipeline's part of the ghost state, -/
abbrev EP : Emb (UR sig nD τ) (MT nD τ sig Unit (Elt F) ℕ UU ℕ) := embL
/-- and the exchange's. -/
abbrev ER : Emb UB (MT nD τ sig Unit (Elt F) ℕ UU ℕ) := embR

variable (m : (ℓ : Loc nD τ sig) → Buf (Elt F) ℓ) (ρ : Dev nD → PrngReg)

/-- The launch: any contents, every counter at zero. -/
def s₀ : MemSt nD τ sig (Elt F) := ⟨m, fun _ => 0, ρ⟩

/-! ## Peers -/

set_option backward.proofsInPublic true in
/-- The device that step `r` of device `c` sends to: `r + 1` places further round the mesh. -/
def fwd (c : Dev nD) (r : Fin 31) : Dev nD := ⟨(c.val + r.val + 1) % 32, Nat.mod_lt _ (by decide)⟩
set_option backward.proofsInPublic true in
/-- The device `n + 1` places back, from which step `n` of device `c` receives (at `n = 31`: `c` itself). -/
def src (c : Dev nD) (n : ℕ) : Dev nD := ⟨((c.val + 31) - n) % 32, Nat.mod_lt _ (by decide)⟩
/-- `src` at a step's number. -/
abbrev bwd (c : Dev nD) (r : Fin 31) : Dev nD := src c r.val

/-- Back again from the receiver of step `r`, -/
theorem bwd_fwd (c : Dev nD) (r : Fin 31) : bwd (fwd c r) r = c := by
  refine Fin.ext ?_; have := c.isLt; have := r.isLt; simp only [nD] at *; simp only [src, fwd]; omega
/-- and forth again from its source. -/
theorem fwd_bwd (c : Dev nD) (r : Fin 31) : fwd (bwd c r) r = c := by
  refine Fin.ext ?_; have := c.isLt; have := r.isLt; simp only [nD] at *; simp only [src, fwd]; omega
/-- Counting the steps from the other end turns receivers into senders. -/
theorem bwd_rev (c : Dev nD) (r : Fin 31) : bwd c r.rev = fwd c r := by
  refine Fin.ext ?_; have := c.isLt; have := r.isLt; simp only [nD] at *; simp only [src, fwd, Fin.val_rev]; omega
/-- A source is another device, -/
theorem src_ne (c : Dev nD) (r : Fin 31) : bwd c r ≠ c := fun h => by
  have := congrArg Fin.val h; have := c.isLt; have := r.isLt; simp only [nD] at *; simp only [src] at *; omega
/-- and different steps have different sources. -/
theorem bwd_injective (c : Dev nD) : Function.Injective (bwd c) := fun r r' h => by
  have := congrArg Fin.val h; have := c.isLt; have := r.isLt; have := r'.isLt
  refine Fin.ext ?_; simp only [nD] at *; simp only [src] at *; omega
/-- Every device other than `c` is one of its sources. -/
theorem exists_bwd (c s : Dev nD) (h : s ≠ c) : ∃ r, bwd c r = s := by
  have h' : s.val ≠ c.val := fun e => h (Fin.ext e)
  have := c.isLt; have := s.isLt; simp only [nD] at *
  refine ⟨⟨(c.val + 31 - s.val) % 32, by omega⟩, Fin.ext ?_⟩
  simp only [src]; omega

/-- Step `r` is a bijection of the mesh. -/
def turn (r : Fin 31) : Dev nD ≃ Dev nD := ⟨fun c => fwd c r, fun c => bwd c r, fun c => bwd_fwd c r, fun c => fwd_bwd c r⟩

/-! ## Buffers and their pieces -/

/-- The staged block of `x`, -/
abbrev xM : Memref sig .tc .vmem S4096x128 .f32 := Memref.whole cc0_stg0_0
/-- the staged `w`, -/
abbrev wM : Memref sig .tc .vmem S4096x2048 .f32 := Memref.whole cc0_stg1_0
/-- the result, -/
abbrev oM : Memref sig .tc .vmem S128x2048 .f32 := Memref.whole cc0_stg2_0
/-- the exchanged blocks, one slot per source, -/
abbrev bM : Memref sig .tc .vmem S32x128x128 .f32 := Memref.whole cc0_scratch0
/-- the accumulator, -/
abbrev aM : Memref sig .tc .vmem S128x2048 .f32 := Memref.whole cc0_scratch1
/-- the table of maxima, one row per source, -/
abbrev gM : Memref sig .tc .vmem S32x128 .f32 := Memref.whole cc0_scratch2
/-- and the row of the device's own maximum. -/
abbrev mM : Memref sig .tc .vmem S1x128 .f32 := Memref.whole cc0_scratch3

/-- Row block `s` of `x` lies inside, -/
theorem inb_x (s : Dev nD) : ∀ a, (![128 * s.val, 0] : Fin 2 → Nat) a + S128x128.size a ≤ S4096x128.size a := by
  have := s.isLt; simp only [nD] at this
  intro a; fin_cases a
  · show 128 * s.val + 128 ≤ 4096; omega
  · exact Nat.le_refl _
/-- so do the rows of `w` that it meets, -/
theorem inb_w (s : Dev nD) : ∀ a, (![128 * s.val, 0] : Fin 2 → Nat) a + S128x2048.size a ≤ S4096x2048.size a := by
  have := s.isLt; simp only [nD] at this
  intro a; fin_cases a
  · show 128 * s.val + 128 ≤ 4096; omega
  · exact Nat.le_refl _
/-- slot `s`, -/
theorem inb_b (s : Dev nD) : ∀ a, (![s.val, 0, 0] : Fin 3 → Nat) a + S1x128x128.size a ≤ S32x128x128.size a := by
  have := s.isLt; simp only [nD] at this
  intro a; fin_cases a
  · show s.val + 1 ≤ 32; omega
  · exact Nat.le_refl _
  · exact Nat.le_refl _
/-- and row `s` of the table. -/
theorem inb_g (s : Dev nD) : ∀ a, (![s.val, 0] : Fin 2 → Nat) a + S1x128.size a ≤ S32x128.size a := by
  have := s.isLt; simp only [nD] at this
  intro a; fin_cases a
  · show s.val + 1 ≤ 32; omega
  · exact Nat.le_refl _

/-- The rectangle of row block `s` of `x`, -/
abbrev xR (s : Dev nD) : Rect S4096x128 := Rect.unit (s := S4096x128) ![128 * s.val, 0] S128x128.size (inb_x s)
/-- of the rows of `w` that device `s`'s columns of `x` meet, -/
abbrev wR (s : Dev nD) : Rect S4096x2048 := Rect.unit (s := S4096x2048) ![128 * s.val, 0] S128x2048.size (inb_w s)
/-- of slot `s`, -/
abbrev bR (s : Dev nD) : Rect S32x128x128 := Rect.unit (s := S32x128x128) ![s.val, 0, 0] S1x128x128.size (inb_b s)
/-- and of row `s` of the table. -/
abbrev gR (s : Dev nD) : Rect S32x128 := Rect.unit (s := S32x128) ![s.val, 0] S1x128.size (inb_g s)

/-- The row block of `x` that belongs to device `s`. -/
abbrev xrow (s : Dev nD) : Memref sig .tc .vmem S128x128 .f32 := xM.slice (xR s) (fun _ => rfl)
/-- The slot for source `s`. -/
abbrev slot (s : Dev nD) : Memref sig .tc .vmem S128x128 .f32 := (bM.slice (bR s) (fun _ => rfl)).squeeze S128x128 squeezes_S1x128x128_S128x128
/-- The row for source `s` of the table of maxima. -/
abbrev grow (s : Dev nD) : Memref sig .tc .vmem S1x128 .f32 := gM.slice (gR s) (fun _ => rfl)

/-! ## Semaphores -/

/-- The runtime's barrier semaphore. -/
abbrev barS : Sem sig := (SemArray.scalar (sig.barrier 0 rfl) : Sems sig S_).sem
/-- The kernel's own 130 DMA semaphores, in the order they are declared. -/
def dsem (i : Fin 130) : DmaSem sig := ⟨3 + i.val, by have := i.isLt; show 3 + i.val < 133; omega⟩
/-- The numbers of the semaphores: step `r`'s send of a block, -/
def iSend (r : Fin 31) : Fin 130 := ⟨1 + r.val, by omega⟩
/-- its arrival of a block, -/
def iRecv (r : Fin 31) : Fin 130 := ⟨33 + r.val, by omega⟩
/-- its send of the row of maxima, -/
def iASend (r : Fin 31) : Fin 130 := ⟨65 + r.val, by omega⟩
/-- its arrival of a row, -/
def iARecv (r : Fin 31) : Fin 130 := ⟨97 + r.val, by omega⟩
/-- the copy of the device's own block, -/
def iLocB : Fin 130 := ⟨128, by omega⟩
/-- and of its own row. -/
def iLocG : Fin 130 := ⟨129, by omega⟩

/-- Device `c`'s barrier cell, -/
abbrev barCell (c : Dev nD) : GSem nD τ sig := ((c : Thread nD τ), .reg barS)
/-- and its DMA cells. -/
abbrev dCell (c : Dev nD) (i : Fin 130) : GSem nD τ sig := ((c : Thread nD τ), .dma (dsem i))

/-- What a DMA semaphore is for. -/
inductive Use where
  | none | send (r : Fin 31) | recv (r : Fin 31) | asend (r : Fin 31) | arecv (r : Fin 31) | locB | locG
deriving DecidableEq

/-- The use of each semaphore, by its number. -/
def useOf (n : ℕ) : Use :=
  if h : 4 ≤ n ∧ n < 35 then .send ⟨n - 4, by omega⟩
  else if h : 36 ≤ n ∧ n < 67 then .recv ⟨n - 36, by omega⟩
  else if h : 68 ≤ n ∧ n < 99 then .asend ⟨n - 68, by omega⟩
  else if h : 100 ≤ n ∧ n < 131 then .arecv ⟨n - 100, by omega⟩
  else if n = 131 then .locB else if n = 132 then .locG else .none

/-- The use of a block's send, -/
theorem use_send (r : Fin 31) : useOf (dsem (iSend r)).val = .send r := by revert r; decide
/-- of a block's arrival, -/
theorem use_recv (r : Fin 31) : useOf (dsem (iRecv r)).val = .recv r := by revert r; decide
/-- of a row's send, -/
theorem use_asend (r : Fin 31) : useOf (dsem (iASend r)).val = .asend r := by revert r; decide
/-- of a row's arrival, -/
theorem use_arecv (r : Fin 31) : useOf (dsem (iARecv r)).val = .arecv r := by revert r; decide
/-- of the own block's copy, -/
theorem use_locB : useOf (dsem iLocB).val = .locB := by decide
/-- and of the own row's copy. -/
theorem use_locG : useOf (dsem iLocG).val = .locG := by decide

/-- Different numbers are different semaphores. -/
theorem dsem_injective : Function.Injective dsem := fun i j h => by
  have := congrArg Fin.val h; simp only [dsem] at this; exact Fin.ext (by omega)

/-! ## Contents -/

/-- Device `c`'s staged block of `x`, -/
def xstg (c : Dev nD) : (cc0_stg0_0 : Ref sig .tc).ty.Contents (Elt F) :=
  (win0_0.blk (0 : Fin 1)).view.read (Elt F) ((s₀ m ρ).mem ((c : Thread nD τ).loc main_arg0))
/-- and its staged `w`. -/
def wstg (c : Dev nD) : (cc0_stg1_0 : Ref sig .tc).ty.Contents (Elt F) :=
  (win0_1.blk (0 : Fin 1)).view.read (Elt F) ((s₀ m ρ).mem ((c : Thread nD τ).loc main_arg1))

/-- The exchanged blocks on device `c`: slot `s` holds the row block of `c` in the `x` of device `s`. -/
def blocks (c : Dev nD) : (cc0_scratch0 : Ref sig .tc).ty.Contents (Elt F) :=
  fun i => xstg m ρ ⟨(i 0).val, (i 0).isLt⟩ (ix2 (n0 := 4096) (n1 := 128) ⟨128 * c.val + (i 1).val, by
    have h1 := c.isLt; have h2 : (i 1).val < 128 := (i 1).isLt; simp only [nD] at h1; omega⟩ ⟨(i 2).val, (i 2).isLt⟩)

/-- What a load of slot `s` reads, -/
def blkVal (c s : Dev nD) : Vec F S1x128x128 .f32 := bM.view.readAt (Elt F) (bR s).toLoadRect (blocks m ρ c)
/-- and a load of the rows of `w` that device `s`'s columns of `x` meet. -/
def wVal (c s : Dev nD) : Vec F S128x2048 .f32 := wM.view.readAt (Elt F) (wR s).toLoadRect (wstg m ρ c)

/-- The accumulator after `n` arrivals: the own product first, then one product per arrival. -/
def accAt (c : Dev nD) : ℕ → (cc0_scratch1 : Ref sig .tc).ty.Contents (Elt F)
  | 0 => k0_pay1 (blkVal m ρ c c) (wVal m ρ c c)
  | n + 1 => k0_pay2 (accAt c n) (blkVal m ρ c (src c n)) (wVal m ρ c (src c n))

/-- The row of device `c`'s largest absolute value, -/
def amaxOf (c : Dev nD) : (cc0_scratch3 : Ref sig .tc).ty.Contents (Elt F) := k0_pay49 (accAt m ρ c 31)
/-- a table made of one row per device, -/
def rows (A : Dev nD → (cc0_scratch3 : Ref sig .tc).ty.Contents (Elt F)) : (cc0_scratch2 : Ref sig .tc).ty.Contents (Elt F) :=
  fun i => A ⟨(i 0).val, (i 0).isLt⟩ (ix2 (n0 := 1) (n1 := 128) 0 ⟨(i 1).val, (i 1).isLt⟩)
/-- the table of all the maxima, the same on every device, -/
def table : (cc0_scratch2 : Ref sig .tc).ty.Contents (Elt F) := rows (amaxOf m ρ)
/-- and the result. -/
def outAt (c : Dev nD) : (cc0_stg2_0 : Ref sig .tc).ty.Contents (Elt F) := k0_pay50 (accAt m ρ c 31) (table m ρ)

/-! ## What a copy writes -/

/-- A pair of zeros is zero everywhere. -/
theorem hz2 : (![0, 0] : Fin 2 → Nat) = fun _ => 0 := funext fun a => by fin_cases a <;> rfl

/-- Where the pieces lie in their buffers. -/
theorem xrow_emb (d : Dev nD) (x y : Fin 128) : (xrow d).view.emb (ix2 x y) = ix2 (n0 := 4096) (n1 := 128) ⟨128 * d.val + x.val, by
    have h1 := d.isLt; simp only [nD] at h1; omega⟩ y := by
  funext a
  refine Fin.ext ((ValueKit.rect_emb_unit_val _ _ (inb_x d) _ a).trans ?_)
  fin_cases a
  · rfl
  · show 0 + y.val = y.val; omega
/-- This is where slot `s` lies, -/
theorem slot_emb (s : Dev nD) (x y : Fin 128) : (slot s).view.emb (ix2 x y) = ix3 (n0 := 32) ⟨s.val, s.isLt⟩ x y := by
  have h : (slot s).view.emb (ix2 x y) = (bR s).emb (Shape.reshapeEquiv (squeezes_S1x128x128_S128x128.numel_eq) (ix2 x y)) := rfl
  rw [h, reshapeEquiv_ix2_1ab]
  funext a
  refine Fin.ext ((ValueKit.rect_emb_unit_val _ _ (inb_b s) _ a).trans ?_)
  fin_cases a
  · rfl
  · show 0 + x.val = x.val; omega
  · show 0 + y.val = y.val; omega
/-- and row `s` of the table. -/
theorem grow_emb (s : Dev nD) (x : Fin 1) (y : Fin 128) : (grow s).view.emb (ix2 x y) = ix2 (n0 := 32) ⟨s.val, s.isLt⟩ y := by
  funext a
  refine Fin.ext ((ValueKit.rect_emb_unit_val _ _ (inb_g s) _ a).trans ?_)
  fin_cases a
  · show s.val + x.val = s.val; omega
  · show 0 + y.val = y.val; omega

omit [FloatOps F] in
/-- Writing row block `d` of device `s`'s `x` into slot `s` leaves, on that slot, device `d`'s `blocks`. -/
theorem slot_written (s d : Dev nD) (f : (cc0_scratch0 : Ref sig .tc).ty.Contents (Elt F)) :
    ∀ i ∈ (slot s).view.set, (slot s).view.write (Elt F) f ((xrow d).view.read (Elt F) (xstg m ρ s)) Finset.univ i = blocks m ρ d i := by
  intro i hi
  obtain ⟨j, rfl⟩ := View.exists_emb_of_mem_set _ hi
  refine (View.write_emb_of_mem _ _ (Finset.mem_univ j)).trans ?_
  obtain ⟨x, y, rfl⟩ : ∃ x y : Fin 128, j = ix2 x y := ⟨_, _, eq_ix2 j⟩
  refine Eq.trans ?_ (congrArg (blocks m ρ d) (slot_emb s x y)).symm
  exact congrArg (xstg m ρ s) (xrow_emb d x y)

omit [FloatOps F] in
/-- Writing a device's row into its row of a table leaves, on that row, the table. -/
theorem grow_written (A : Dev nD → (cc0_scratch3 : Ref sig .tc).ty.Contents (Elt F)) (s : Dev nD) (f : (cc0_scratch2 : Ref sig .tc).ty.Contents (Elt F)) :
    ∀ i ∈ (grow s).view.set, (grow s).view.write (Elt F) f (mM.view.read (Elt F) (A s)) Finset.univ i = rows A i := by
  intro i hi
  obtain ⟨j, rfl⟩ := View.exists_emb_of_mem_set _ hi
  refine (View.write_emb_of_mem _ _ (Finset.mem_univ j)).trans ?_
  obtain ⟨x, y, rfl⟩ : ∃ (x : Fin 1) (y : Fin 128), j = ix2 x y := ⟨_, _, eq_ix2 j⟩
  refine Eq.trans ?_ (congrArg (rows A) (grow_emb s x y)).symm
  obtain rfl : x = 0 := Subsingleton.elim _ _
  exact congrFun (View.read_whole (Val := Elt F) (b := (cc0_scratch3 : Ref sig .tc)) (A s)) (ix2 0 y)

/-! ## The pieces cover their buffers and do not meet -/

/-- The elements of a piece, as elements of the buffer. -/
abbrev slotSet (s : Dev nD) : Finset (cc0_scratch0 : Ref sig .tc).ty.shape.Idx := (slot s).view.set
/-- Slot `s` is the elements whose first coordinate is `s`. -/
theorem mem_slot (s : Dev nD) (i : (cc0_scratch0 : Ref sig .tc).ty.shape.Idx) : i ∈ (slot s).view.set ↔ (i 0).val = s.val := by
  constructor
  · intro hi
    obtain ⟨j, rfl⟩ := View.exists_emb_of_mem_set _ hi
    obtain ⟨x, y, rfl⟩ : ∃ x y : Fin 128, j = ix2 x y := ⟨_, _, eq_ix2 j⟩
    exact congrArg (fun k : (cc0_scratch0 : Ref sig .tc).ty.shape.Idx => (k 0).val) (slot_emb s x y)
  · intro h
    obtain ⟨a, x, y, rfl⟩ : ∃ (a : Fin 32) (x y : Fin 128), i = ix3 a x y := ⟨_, _, _, eq_ix3 i⟩
    obtain rfl : a = ⟨s.val, s.isLt⟩ := Fin.ext h
    exact (slot_emb s x y) ▸ View.emb_mem_set _ _
/-- The elements of a piece, as elements of the buffer. -/
abbrev growSet (s : Dev nD) : Finset (cc0_scratch2 : Ref sig .tc).ty.shape.Idx := (grow s).view.set
/-- Row `s` is the elements whose first coordinate is `s`. -/
theorem mem_grow (s : Dev nD) (i : (cc0_scratch2 : Ref sig .tc).ty.shape.Idx) : i ∈ (grow s).view.set ↔ (i 0).val = s.val := by
  constructor
  · intro hi
    obtain ⟨j, rfl⟩ := View.exists_emb_of_mem_set _ hi
    obtain ⟨x, y, rfl⟩ : ∃ (x : Fin 1) (y : Fin 128), j = ix2 x y := ⟨_, _, eq_ix2 j⟩
    exact congrArg (fun k : (cc0_scratch2 : Ref sig .tc).ty.shape.Idx => (k 0).val) (grow_emb s x y)
  · intro h
    obtain ⟨a, y, rfl⟩ : ∃ (a : Fin 32) (y : Fin 128), i = ix2 a y := ⟨_, _, eq_ix2 i⟩
    obtain rfl : a = ⟨s.val, s.isLt⟩ := Fin.ext h
    exact (grow_emb s 0 y) ▸ View.emb_mem_set _ _
/-- The elements of a piece, as elements of the buffer. -/
abbrev xrowSet (s : Dev nD) : Finset (cc0_stg0_0 : Ref sig .tc).ty.shape.Idx := (xrow s).view.set
/-- Row block `s` is the elements whose row, divided by 128, is `s`. -/
theorem mem_xrow (s : Dev nD) (i : (cc0_stg0_0 : Ref sig .tc).ty.shape.Idx) : i ∈ (xrow s).view.set ↔ (i 0).val / 128 = s.val := by
  constructor
  · intro hi
    obtain ⟨j, rfl⟩ := View.exists_emb_of_mem_set _ hi
    obtain ⟨x, y, rfl⟩ : ∃ x y : Fin 128, j = ix2 x y := ⟨_, _, eq_ix2 j⟩
    refine (congrArg (fun k : (cc0_stg0_0 : Ref sig .tc).ty.shape.Idx => (k 0).val / 128) (xrow_emb s x y)).trans ?_
    show (128 * s.val + x.val) / 128 = s.val
    omega
  · intro h
    obtain ⟨a, y, rfl⟩ : ∃ (a : Fin 4096) (y : Fin 128), i = ix2 a y := ⟨_, _, eq_ix2 i⟩
    have h' : a.val / 128 = s.val := h
    have e : (xrow s).view.emb (ix2 ⟨a.val % 128, Nat.mod_lt _ (by decide)⟩ y) = ix2 a y := by
      refine (xrow_emb s _ y).trans (congrArg (fun b : Fin 4096 => ix2 b y) (Fin.ext ?_))
      show 128 * s.val + a.val % 128 = a.val; omega
    exact e ▸ View.emb_mem_set _ _

/-- All 32 slots are the whole buffer, -/
theorem slot_cover : (Finset.univ : Finset (Dev nD)).biUnion slotSet = Finset.univ :=
  Finset.eq_univ_iff_forall.mpr fun i => Finset.mem_biUnion.mpr ⟨⟨(i 0).val, (i 0).isLt⟩, Finset.mem_univ _, (mem_slot _ i).mpr rfl⟩
/-- and no two of them meet; -/
theorem slot_disjoint {s t : Dev nD} (h : s ≠ t) : Disjoint (slotSet s) (slotSet t) :=
  Finset.disjoint_left.mpr fun i hs ht => by
    have hs := (mem_slot s i).mp hs
    have ht := (mem_slot t i).mp ht
    exact h (Fin.ext (hs.symm.trans ht))
/-- all 32 rows the whole table, -/
theorem grow_cover : (Finset.univ : Finset (Dev nD)).biUnion growSet = Finset.univ :=
  Finset.eq_univ_iff_forall.mpr fun i => Finset.mem_biUnion.mpr ⟨⟨(i 0).val, (i 0).isLt⟩, Finset.mem_univ _, (mem_grow _ i).mpr rfl⟩
/-- and no two of them meet; -/
theorem grow_disjoint {s t : Dev nD} (h : s ≠ t) : Disjoint (growSet s) (growSet t) :=
  Finset.disjoint_left.mpr fun i hs ht => by
    have hs := (mem_grow s i).mp hs
    have ht := (mem_grow t i).mp ht
    exact h (Fin.ext (hs.symm.trans ht))
/-- and all 32 row blocks the whole block of `x`. -/
theorem xrow_cover : (Finset.univ : Finset (Dev nD)).biUnion xrowSet = Finset.univ :=
  Finset.eq_univ_iff_forall.mpr fun i => by
    have hi : (i 0).val < 4096 := (i 0).isLt
    obtain ⟨s, hs⟩ : ∃ s : Dev nD, s.val = (i 0).val / 128 := ⟨⟨(i 0).val / 128, Nat.div_lt_of_lt_mul hi⟩, rfl⟩
    exact Finset.mem_biUnion.mpr ⟨s, Finset.mem_univ _, (mem_xrow s i).mpr hs.symm⟩
/-- No two of these meet. -/
theorem xrow_disjoint {s t : Dev nD} (h : s ≠ t) : Disjoint (xrowSet s) (xrowSet t) :=
  Finset.disjoint_left.mpr fun i hs ht => by
    have hs := (mem_xrow s i).mp hs
    have ht := (mem_xrow t i).mp ht
    exact h (Fin.ext (hs.symm.trans ht))

end Cert.Exchange

end
-- ==== Proof.Protocol.lean ====
/-
# Protocol: who pays what into which semaphore

One round per semaphore.  A device's barrier cell collects one unit from each of its 31 sources; the unit of source
`bwd c r` brings that source's slot and table row reserved for `c`, which is what `c` needs before it may send there.  Every
DMA semaphore in use collects one transfer: the receiver's brings the landed piece with its contents, the sender's
brings the source piece back.
-/
module

public import proofs.«01_k».proof.Proof.Places

@[expose] public section

noncomputable section

namespace Cert.Exchange

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pieces as assertions -/

/-- Row block `s` of device `c`'s staged `x`. -/
def xPts (c s : Dev nD) : sProp 𝕄 :=
  (xrow s).view.loc (c : Thread nD τ) ↦[(xrow s).view.set]{fullShare} xstg m ρ c
/-- Slot `s` on device `c`, holding `f`. -/
def slotPts (c s : Dev nD) (f : (cc0_scratch0 : Ref sig .tc).ty.Contents (Elt F)) : sProp 𝕄 :=
  (slot s).view.loc (c : Thread nD τ) ↦[(slot s).view.set]{fullShare} (f : Buf (Elt F) ((slot s).view.loc (c : Thread nD τ)))
/-- Row `s` of the table on device `c`, holding `f`. -/
def growPts (c s : Dev nD) (f : (cc0_scratch2 : Ref sig .tc).ty.Contents (Elt F)) : sProp 𝕄 :=
  (grow s).view.loc (c : Thread nD τ) ↦[(grow s).view.set]{fullShare} (f : Buf (Elt F) ((grow s).view.loc (c : Thread nD τ)))
/-- A share of device `c`'s own row of maxima. -/
def mPts (q : PosShare TreeShare) (c : Dev nD) : sProp 𝕄 :=
  mM.view.loc (c : Thread nD τ) ↦[mM.view.set]{q} (amaxOf m ρ c : Buf (Elt F) (mM.view.loc (c : Thread nD τ)))

omit [FloatOps F] in
/-- A row block of `x` may be handed over at a semaphore, -/
instance xPts_storable (c s : Dev nD) : BI.Storable (upEmb : UEmb _ 𝕄) (xPts (F := F) m ρ c s) := by unfold xPts; infer_instance
omit [FloatOps F] in
/-- so may a slot, -/
instance slotPts_storable (c s : Dev nD) (f) : BI.Storable (upEmb : UEmb _ 𝕄) (slotPts (F := F) c s f) := by unfold slotPts; infer_instance
omit [FloatOps F] in
/-- a row of the table, -/
instance growPts_storable (c s : Dev nD) (f) : BI.Storable (upEmb : UEmb _ 𝕄) (growPts (F := F) c s f) := by unfold growPts; infer_instance
/-- and a share of the row of maxima. -/
instance mPts_storable (q : PosShare TreeShare) (c : Dev nD) : BI.Storable (upEmb : UEmb _ 𝕄) (mPts (F := F) m ρ q c) := by unfold mPts; infer_instance

/-! ## The schedule -/

/-- The credit of a block transfer, and of a row transfer. -/
def NB : ℕ := (slot (0 : Fin 32)).view.dmaCredit
/-- The credit of a transfer of a row. -/
def NG : ℕ := (grow (0 : Fin 32)).view.dmaCredit
/-- Both are positive, -/
theorem NB_pos : 0 < NB := View.dmaCredit_pos _ (by decide)
/-- as the rounds need. -/
theorem NG_pos : 0 < NG := View.dmaCredit_pos _ (by decide)

/-- What one transfer credits its semaphore with. -/
def amt : Use → ℕ
  | .none => 1
  | .send _ => NB | .recv _ => NB | .locB => NB
  | .asend _ => NG | .arecv _ => NG | .locG => NG
/-- It is positive. -/
theorem amt_pos (u : Use) : 0 < amt u := by cases u <;> first | exact NB_pos | exact NG_pos | exact Nat.one_pos

/-- What the waiter on device `c`'s DMA semaphore of that use gets. -/
def pay (c : Dev nD) : Use → sProp 𝕄
  | .none => iprop(emp)
  | .send r => xPts m ρ c (fwd c r)
  | .recv r => slotPts c (bwd c r) (blocks m ρ c)
  | .asend r => mPts m ρ (Transfers.shareTok fullShare 31 r) c
  | .arecv r => growPts c (bwd c r) (table m ρ)
  | .locB => iprop(slotPts c c (blocks m ρ c) ∗ xPts m ρ c c)
  | .locG => iprop(growPts c c (table m ρ) ∗ mPts m ρ (Transfers.shareDrop fullShare 31) c)

/-- What source `bwd c r`'s unit brings device `c`: the slot and the table row reserved there for `c`. -/
def barPay (c : Dev nD) (r : Fin 31) : sProp 𝕄 := iprop((∃ f, slotPts (bwd c r) c f) ∗ ∃ f, growPts (bwd c r) c f)

/-- What a transfer hands over may be handed over at a semaphore, -/
instance pay_storable (c : Dev nD) (u : Use) : BI.Storable (upEmb : UEmb _ 𝕄) (pay (F := F) m ρ c u) := by
  cases u <;> unfold pay <;> infer_instance
omit [FloatOps F] in
/-- and so may what a unit hands over. -/
instance barPay_storable (c : Dev nD) (r : Fin 31) : BI.Storable (upEmb : UEmb _ 𝕄) (barPay (F := F) c r) := by unfold barPay; infer_instance

/-- The duties of a semaphore: 31 on the barrier, one on a DMA semaphore in use. -/
def dutiesOf : SemLoc sig → Finset (Fin 31)
  | .reg s => if s = barS then Finset.univ else ∅
  | .dma q => if useOf q.val = .none then ∅ else {0}

/-- One round, round 0. -/
def Rd : Rounds.Schedule (GSem nD τ sig) (Fin 31) 𝕄 where
  duties g r := if r = 0 ∧ g.1.2 = .tc then dutiesOf g.2 else ∅
  unitless _ := False
  amount g _ _ := match g.2 with | .reg _ => 1 | .dma q => amt (useOf q.val)
  payload g _ d := match g.2 with | .reg _ => barPay g.1.1 d | .dma q => pay m ρ g.1.1 (useOf q.val)
  amount_pos g _ _ _ := by
    cases g.2
    · exact Nat.one_pos
    · exact amt_pos _

/-- Every payload of the schedule may be handed over at its semaphore. -/
instance Rd_payload_storable (g : GSem nD τ sig) (r : ℕ) (d : Fin 31) :
    BI.Storable (upEmb : UEmb _ 𝕄) ((Rd (F := F) m ρ).payload g r d) := by
  obtain ⟨t, sl⟩ := g
  cases sl
  · show BI.Storable upEmb (barPay t.1 d); infer_instance
  · show BI.Storable upEmb (pay m ρ t.1 _); infer_instance

section Tables
variable (c : Dev nD)

/-- A barrier has 31 duties, -/
theorem duties_bar : (Rd (F := F) m ρ).duties (barCell c) 0 = Finset.univ := by
  dsimp only [Rd]; rw [if_pos ⟨rfl, rfl⟩]; unfold dutiesOf; exact if_pos rfl
/-- a DMA semaphore in use has one, -/
theorem duties_dma (i : Fin 130) (h : useOf (dsem i).val ≠ .none) : (Rd (F := F) m ρ).duties (dCell c i) 0 = {0} := by
  dsimp only [Rd]; rw [if_pos ⟨rfl, rfl⟩]; exact if_neg h
/-- one without a use has none, -/
theorem duties_unused (i : Fin 130) (h : useOf (dsem i).val = .none) (r : ℕ) : (Rd (F := F) m ρ).duties (dCell c i) r = ∅ := by
  dsimp only [Rd]; split
  · exact if_pos h
  · rfl
/-- and no semaphore has any after round 0. -/
theorem duties_later (g : GSem nD τ sig) : ∀ r, 1 ≤ r → (Rd (F := F) m ρ).duties g r = ∅ :=
  fun r hr => by dsimp only [Rd]; rw [if_neg fun h => by omega]
/-- A unit is worth one, -/
theorem amount_bar (d : Fin 31) : (Rd (F := F) m ρ).amount (barCell c) 0 d = 1 := rfl
/-- a transfer its credit. -/
theorem amount_dma (i : Fin 130) (d : Fin 31) : (Rd (F := F) m ρ).amount (dCell c i) 0 d = amt (useOf (dsem i).val) := rfl
/-- A unit brings the slot and the row reserved for the device, -/
theorem payload_bar (d : Fin 31) : (Rd (F := F) m ρ).payload (barCell c) 0 d = barPay c d := rfl
/-- a transfer brings what its use says. -/
theorem payload_dma (i : Fin 130) (d : Fin 31) : (Rd (F := F) m ρ).payload (dCell c i) 0 d = pay m ρ c (useOf (dsem i).val) := rfl
/-- A barrier's round is over after 31 units, -/
theorem expect_bar : (Rd (F := F) m ρ).expect (barCell c) 0 = 31 := by
  unfold Schedule.expect Schedule.amountOf
  rw [duties_bar, Finset.sum_congr rfl fun d _ => amount_bar m ρ c d, Finset.sum_const, Finset.card_univ, Fintype.card_fin, smul_eq_mul]
/-- a DMA semaphore's after one transfer. -/
theorem expect_dma (i : Fin 130) (h : useOf (dsem i).val ≠ .none) : (Rd (F := F) m ρ).expect (dCell c i) 0 = amt (useOf (dsem i).val) := by
  unfold Schedule.expect Schedule.amountOf; rw [duties_dma m ρ c i h, Finset.sum_singleton, amount_dma]
/-- A wait for a whole barrier round brings all 31 payloads, -/
theorem rest_bar : bigSep ((Rd (F := F) m ρ).duties (barCell c) 0 \ ∅) (fun d => (Rd (F := F) m ρ).payload (barCell c) 0 d)
    = bigSep Finset.univ (barPay (F := F) c) := by
  rw [Finset.sdiff_empty, duties_bar]; rfl
/-- a wait for a transfer brings that transfer's. -/
theorem rest_dma (i : Fin 130) (h : useOf (dsem i).val ≠ .none) :
    bigSep ((Rd (F := F) m ρ).duties (dCell c i) 0 \ ∅) (fun d => (Rd (F := F) m ρ).payload (dCell c i) 0 d) = pay m ρ c (useOf (dsem i).val) := by
  rw [Finset.sdiff_empty, duties_dma m ρ c i h, bigSep_singleton, payload_dma]

end Tables

/-! ## Steps still to come and steps done -/

/-- The steps from `n` on, -/
def todo (n : ℕ) : Finset (Fin 31) := Finset.univ.filter fun r => n ≤ r.val
/-- and those before `n`. -/
def done (n : ℕ) : Finset (Fin 31) := Finset.univ.filter fun r => r.val < n

/-- At first every step is to come, -/
theorem todo_zero : todo 0 = Finset.univ := by decide
/-- at last none is. -/
theorem todo_last : todo 31 = ∅ := by decide
/-- At first no step is done, -/
theorem done_zero : done 0 = ∅ := by decide
/-- at last every step is. -/
theorem done_last : done 31 = Finset.univ := by decide
/-- The steps from `r` on are `r` and those after it. -/
theorem todo_step (r : Fin 31) : todo r.val = insert r (todo (r.val + 1)) := by
  ext i; simp only [todo, Finset.mem_filter, Finset.mem_univ, true_and, Finset.mem_insert, Fin.ext_iff]; omega
/-- The steps up to `r` are `r` and those before it. -/
theorem done_step (r : Fin 31) : done (r.val + 1) = insert r (done r.val) := by
  ext i; simp only [done, Finset.mem_filter, Finset.mem_univ, true_and, Finset.mem_insert, Fin.ext_iff]; omega
/-- Step `r` is not among those after it, -/
theorem not_mem_todo (r : Fin 31) : r ∉ todo (r.val + 1) := by simp [todo]
/-- nor among those before it. -/
theorem not_mem_done (r : Fin 31) : r ∉ done r.val := by simp [done]

omit [FloatOps F] in
/-- Holdings for the steps to come: those for the next step, and the others. -/
theorem bigSep_todo (r : Fin 31) (Φ : Fin 31 → sProp 𝕄) : bigSep (todo r.val) Φ = iprop(Φ r ∗ bigSep (todo (r.val + 1)) Φ) := by
  rw [todo_step, bigSep_insert (not_mem_todo r)]; rfl
omit [FloatOps F] in
/-- Holdings for the steps done: those for the last step, and the others. -/
theorem bigSep_done (r : Fin 31) (Φ : Fin 31 → sProp 𝕄) : bigSep (done (r.val + 1)) Φ = iprop(Φ r ∗ bigSep (done r.val) Φ) := by
  rw [done_step, bigSep_insert (not_mem_done r)]; rfl

/-! ## What a device owes, and the levels -/

/-- The units, blocks and rows device `c` still owes from step `n` on. -/
def owedBar (c : Dev nD) (n : ℕ) : CellTallies nD τ sig Unit := ∑ r ∈ todo n, tallyAt (barCell (fwd c r)) () 1
/-- The blocks that it still owes, -/
def owedRecv (c : Dev nD) (n : ℕ) : CellTallies nD τ sig Unit := ∑ r ∈ todo n, tallyAt (dCell (fwd c r) (iRecv r)) () NB
/-- and the rows. -/
def owedARecv (c : Dev nD) (n : ℕ) : CellTallies nD τ sig Unit := ∑ r ∈ todo n, tallyAt (dCell (fwd c r) (iARecv r)) () NG
/-- At launch: everything. -/
def O₀ (c : Dev nD) : CellTallies nD τ sig Unit := owedARecv c 0 + owedRecv c 0 + owedBar c 0

/-- Step `r` pays one unit, -/
theorem owedBar_step (c : Dev nD) (r : Fin 31) : owedBar c r.val = owedBar c (r.val + 1) + tallyAt (barCell (fwd c r)) () 1 := by
  unfold owedBar; rw [todo_step, Finset.sum_insert (not_mem_todo r), add_comm]
/-- or one block, -/
theorem owedRecv_step (c : Dev nD) (r : Fin 31) : owedRecv c r.val = owedRecv c (r.val + 1) + tallyAt (dCell (fwd c r) (iRecv r)) () NB := by
  unfold owedRecv; rw [todo_step, Finset.sum_insert (not_mem_todo r), add_comm]
/-- or one row. -/
theorem owedARecv_step (c : Dev nD) (r : Fin 31) : owedARecv c r.val = owedARecv c (r.val + 1) + tallyAt (dCell (fwd c r) (iARecv r)) () NG := by
  unfold owedARecv; rw [todo_step, Finset.sum_insert (not_mem_todo r), add_comm]
/-- After 31 steps no unit is owed, -/
theorem owedBar_last (c : Dev nD) : owedBar c 31 = 0 := by unfold owedBar; rw [todo_last, Finset.sum_empty]
/-- no block, -/
theorem owedRecv_last (c : Dev nD) : owedRecv c 31 = 0 := by unfold owedRecv; rw [todo_last, Finset.sum_empty]
/-- and no row. -/
theorem owedARecv_last (c : Dev nD) : owedARecv c 31 = 0 := by unfold owedARecv; rw [todo_last, Finset.sum_empty]

/-- The cells that have a level: those of the devices' cores. -/
def L (g : GSem nD τ sig) : Finset Unit := if g.1.2 = .tc then {()} else ∅
/-- Barrier cells at 1, the blocks' receive cells at 2, the rows' at 3, everything else at 0. -/
def lvUse : Use → ℕ
  | .recv _ => 2 | .arecv _ => 3 | _ => 0
/-- The level of a cell. -/
def lv (g : GSem nD τ sig) (_ : Unit) : ℕ := match g.2 with | .reg _ => 1 | .dma q => lvUse (useOf q.val)

/-- Other cells have no level. -/
theorem L_of_ne (g : GSem nD τ sig) (h : g.1.2 ≠ .tc) : L g = ∅ := if_neg h
/-- A core's cell has one. -/
theorem L_tc (c : Dev nD) (sm : SemLoc sig) : L ((c : Thread nD τ), sm) = {()} := if_pos rfl

/-- Everything in a tally is a cell of some device above level `n`. -/
def Above (n : ℕ) (O : CellTallies nD τ sig Unit) : Prop :=
  ∀ g u, 0 < O g u → (∃ (d : Dev nD) (sm : SemLoc sig), g = ((d : Thread nD τ), sm)) ∧ n < lv g u

/-- Nothing owed is above every level. -/
theorem Above.zero (n : ℕ) : Above n 0 := fun g u h => absurd h (Nat.lt_irrefl 0)
/-- Two tallies above a level are so together, -/
theorem Above.add {n : ℕ} {O O' : CellTallies nD τ sig Unit} (h : Above n O) (h' : Above n O') : Above n (O + O') := fun g u hp => by
  rw [Pi.add_apply, Finsupp.add_apply] at hp
  rcases Nat.eq_zero_or_pos (O g u) with h0 | h0
  · exact h' g u (by omega)
  · exact h g u h0
/-- and so are any number of them. -/
theorem Above.sum {n : ℕ} (S : Finset (Fin 31)) (f : Fin 31 → CellTallies nD τ sig Unit) (h : ∀ r, Above n (f r)) : Above n (∑ r ∈ S, f r) := by
  classical
  induction S using Finset.induction_on with
  | empty => rw [Finset.sum_empty]; exact Above.zero n
  | insert a S ha ih => rw [Finset.sum_insert ha]; exact (h a).add ih
/-- One debt is above a level if its cell is. -/
theorem Above.tally {n : ℕ} (d : Dev nD) (sm : SemLoc sig) (k : ℕ) (h : n < lv ((d : Thread nD τ), sm) ()) :
    Above n (tallyAt ((d : Thread nD τ), sm) () k) := fun g u hp => by
  rw [tallyAt_apply] at hp
  by_cases e : g = ((d : Thread nD τ), sm) ∧ u = ()
  · rw [e.1]; exact ⟨⟨d, sm, rfl⟩, h⟩
  · rw [if_neg e] at hp; exact absurd hp (Nat.lt_irrefl 0)

/-- The arrival of a block is at level 2, -/
theorem lv_recv (c : Dev nD) (r : Fin 31) : lv (dCell c (iRecv r)) () = 2 := by show lvUse (useOf (dsem (iRecv r)).val) = 2; rw [use_recv]; rfl
/-- that of a row at level 3. -/
theorem lv_arecv (c : Dev nD) (r : Fin 31) : lv (dCell c (iARecv r)) () = 3 := by show lvUse (useOf (dsem (iARecv r)).val) = 3; rw [use_arecv]; rfl

/-- The units owed are above level 0, -/
theorem above_bar {n k : ℕ} (hn : n < 1) (c : Dev nD) : Above n (owedBar c k) := Above.sum _ _ fun r => Above.tally _ _ _ hn
/-- the blocks above level 1, -/
theorem above_recv {n k : ℕ} (hn : n < 2) (c : Dev nD) : Above n (owedRecv c k) := Above.sum _ _ fun r => Above.tally _ _ _ (by rw [lv_recv]; exact hn)
/-- and the rows above level 2. -/
theorem above_arecv {n k : ℕ} (hn : n < 3) (c : Dev nD) : Above n (owedARecv c k) := Above.sum _ _ fun r => Above.tally _ _ _ (by rw [lv_arecv]; exact hn)

omit [FloatOps F] in
/-- A wait is allowed while everything owed lies above the awaited cell. -/
theorem mayWait (c : Dev nD) (sm : SemLoc sig) (O : CellTallies nD τ sig Unit) (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by obtain ⟨⟨d, sm', rfl⟩, -⟩ := h g u hg; rw [L_tc]; exact Finset.mem_singleton_self _)
    (fun p hp => by rw [Finset.mem_singleton.mp hp])
    (fun g u hg => (h g u hg).2)

end Cert.Exchange

end
-- ==== Proof.States.lean ====
/-
# States: what a device holds in each phase of the body

The body runs through seven phases of 31 steps: signal, send blocks, receive and accumulate, send maxima, receive maxima,
and the two waits for its own sends.  Each phase's holdings are one assertion with the step's number as an argument, so
that one lemma per operation serves every step.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The facts every device keeps -/

/-- A device's semaphores: its barrier (`none`) and its own DMA semaphores. -/
abbrev csem : Option (Fin 130) → SemLoc sig
  | none => .reg barS
  | some i => .dma (dsem i)
/-- A device's cell. -/
abbrev kcell (ck : Dev nD × Option (Fin 130)) : GSem nD τ sig := ((ck.1 : Thread nD τ), csem ck.2)

variable (K : Dev nD × Option (Fin 130) → ℕ)

/-- Every cell's invariant, that every cell has reached its round 0, and the levels. -/
def Ctx : sProp 𝕄 :=
  iprop((bigSep Finset.univ fun ck : Dev nD × Option (Fin 130) => cellInv ER (Rd m ρ) (K ck) (kcell ck))
    ∗ (bigSep Finset.univ fun ck : Dev nD × Option (Fin 130) => reached ER (kcell ck) 0) ∗ levAts L lv)

/-- These facts can be used again and again. -/
instance Ctx_persistent : BI.Persistent (Ctx m ρ K) := by unfold Ctx; infer_instance

/-- Each cell's invariant is among them, -/
theorem Ctx_inv (ck : Dev nD × Option (Fin 130)) : Ctx m ρ K ⊢ cellInv ER (Rd m ρ) (K ck) (kcell ck) := by
  have h : (bigSep Finset.univ fun ck : Dev nD × Option (Fin 130) => (cellInv ER (Rd m ρ) (K ck) (kcell ck) : sProp 𝕄)) ⊢ cellInv ER (Rd m ρ) (K ck) (kcell ck) :=
    bigSep_elim (Finset.mem_univ ck)
  unfold Ctx
  iintro ⟨#H, -, -⟩
  iapply h; iexact H
/-- and so is that it has reached its round 0. -/
theorem Ctx_reached (ck : Dev nD × Option (Fin 130)) : Ctx m ρ K ⊢ reached ER (kcell ck) 0 := by
  have h : (bigSep Finset.univ fun ck : Dev nD × Option (Fin 130) => (reached ER (kcell ck) 0 : sProp 𝕄)) ⊢ reached ER (kcell ck) 0 :=
    bigSep_elim (Finset.mem_univ ck)
  unfold Ctx
  iintro ⟨-, #H, -⟩
  iapply h; iexact H

/-- What device `c` owes, whatever it has waited for. -/
def Owe (c : Dev nD) (O : CellTallies nD τ sig Unit) : sProp 𝕄 := iprop(∃ W, owes (c : Thread nD τ) O W)

omit [FloatOps F] in
/-- The holdings for the next step, taken out of those for the steps to come. -/
theorem todo_pick (n : ℕ) (hn : n < 31) (Φ : Fin 31 → sProp 𝕄) : bigSep (todo n) Φ = iprop(Φ ⟨n, hn⟩ ∗ bigSep (todo (n + 1)) Φ) :=
  bigSep_todo ⟨n, hn⟩ Φ
omit [FloatOps F] in
/-- The holdings for a finished step, put with those for the steps done. -/
theorem done_put (n : ℕ) (hn : n < 31) (Φ : Fin 31 → sProp 𝕄) : bigSep (done (n + 1)) Φ = iprop(Φ ⟨n, hn⟩ ∗ bigSep (done n) Φ) :=
  bigSep_done ⟨n, hn⟩ Φ

/-! ## The phases -/

/-- Signalling: per step to come its duty token and what its unit hands over. -/
def Sig (c : Dev nD) (n : ℕ) : sProp 𝕄 :=
  iprop((bigSep (todo n) fun r => iprop(dutyTok ER (barCell (fwd c r)) 0 r ∗ barPay (fwd c r) r))
    ∗ Owe c (owedARecv c 0 + owedRecv c 0 + owedBar c n))

/-- Sending blocks: per step to come the row block, the slot reserved on the receiver and both duty tokens; per step done the
    credit to wait for the send. -/
def Snd (c : Dev nD) (n : ℕ) : sProp 𝕄 :=
  iprop((bigSep (todo n) fun r => iprop(xPts m ρ c (fwd c r) ∗ (∃ f, slotPts (fwd c r) c f)
        ∗ dutyTok ER (dCell c (iSend r)) 0 0 ∗ dutyTok ER (dCell (fwd c r) (iRecv r)) 0 0))
    ∗ (bigSep (done n) fun r => cred (tallyAt (dCell c (iSend r)) () NB))
    ∗ Owe c (owedARecv c 0 + owedRecv c n))

/-- Sending maxima, likewise. -/
def ASnd (c : Dev nD) (n : ℕ) : sProp 𝕄 :=
  iprop((bigSep (todo n) fun r => iprop(mPts m ρ (Transfers.shareTok fullShare 31 r) c ∗ (∃ f, growPts (fwd c r) c f)
        ∗ dutyTok ER (dCell c (iASend r)) 0 0 ∗ dutyTok ER (dCell (fwd c r) (iARecv r)) 0 0))
    ∗ (bigSep (done n) fun r => cred (tallyAt (dCell c (iASend r)) () NG))
    ∗ Owe c (owedARecv c n))

/-- One DMA semaphore before its wait: at round 0 with the credit; -/
def Armed (c : Dev nD) (i : Fin 130) : sProp 𝕄 :=
  iprop(atPos ER (dCell c i) 0 ∅ 0 ∗ cred (tallyAt (dCell c i) () (amt (useOf (dsem i).val))))
/-- and after: past its round, with what it brought. -/
def Fired (c : Dev nD) (i : Fin 130) : sProp 𝕄 :=
  iprop(atPos ER (dCell c i) 1 ∅ 0 ∗ pay m ρ c (useOf (dsem i).val))

/-- Waiting on a family of 31 semaphores: those from step `n` on armed, those before it fired. -/
def Wts (ix : Fin 31 → Fin 130) (c : Dev nD) (n : ℕ) : sProp 𝕄 :=
  iprop((bigSep (todo n) fun r => Armed c (ix r)) ∗ bigSep (done n) fun r => Fired m ρ c (ix r))

/-- A whole buffer of device `c`. -/
abbrev bufPts (c : Dev nD) (b : Ref sig .tc) (f : b.ty.Contents (Elt F)) : sProp 𝕄 :=
  ((c : Thread nD τ).loc b) ↦{fullShare} (f : Buf (Elt F) ((c : Thread nD τ).loc b))

/-- Accumulating, `n` blocks received: the receive family, the own slot, `w`, and the accumulator holding `f`. -/
def Acc (c : Dev nD) (n : ℕ) (f : (cc0_scratch1 : Ref sig .tc).ty.Contents (Elt F)) : sProp 𝕄 :=
  iprop(Wts m ρ iRecv c n ∗ Owe c (owedARecv c 0) ∗ slotPts c c (blocks m ρ c) ∗ bufPts c cc0_stg1_0 (wstg m ρ c) ∗ bufPts c cc0_scratch1 f)

end Cert.Exchange

end
-- ==== Proof.Steps.lean ====
/-
# Steps: one lemma per operation of the body

Each lemma takes the holdings before one operation to the holdings after it; the step's number is a parameter, so each
lemma serves all 31 steps of its phase.  A lemma's side conditions say that the operation names the device, piece and
semaphore of that step.
-/
module

public import proofs.«01_k».proof.Proof.States

@[expose] public section

noncomputable section

namespace Cert.Exchange

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Option (Fin 130) → ℕ)

/-- Nothing here loops, so no variant is needed. -/
abbrev 𝒱₀ : Variants := Variants.none

/-- The weakest precondition of a program on device `c`'s core. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable {α : Type} {Q : α → sProp (MT nD τ sig Unit (Elt F) ℕ UU ℕ)} {P P' R : sProp (MT nD τ sig Unit (Elt F) ℕ UU ℕ)} (c : Dev nD)

/-! ## Sequencing -/

/-- One program after another, when the first one's value is known. -/
theorem step_seq {β : Type} {p : Prog (TpuEff nD τ sig (Elt F) Λ₀ .tc) β} {k : β → Prog (TpuEff nD τ sig (Elt F) Λ₀ .tc) α} {v : β}
    (h₁ : P ⊢ WP c p fun x => iprop(⌜x = v⌝ ∗ P')) (h₂ : P' ⊢ WP c (k v) Q) : P ⊢ WP c (p >>= k) Q := by
  unfold WP; rw [wp_bind]
  refine h₁.trans (wp_mono _ _ _ fun x => ?_)
  iintro ⟨%hx, H⟩
  subst hx
  iapply h₂; iexact H

/-- A returned value is known. -/
theorem step_ret {v : α} : P ⊢ WP c (.ret v) fun x => iprop(⌜x = v⌝ ∗ P) := by
  unfold WP; rw [wp_ret]
  iintro H
  imodintro
  isplitr; · ipureintro; rfl
  iexact H

/-- Asking for the device's number gives `c`. -/
theorem step_dev {k : Dev nD → Prog (TpuEff nD τ sig (Elt F) Λ₀ .tc) α} (h : P ⊢ WP c (k c) Q) : P ⊢ WP c (.op .deviceId k) Q := by
  unfold WP; rw [wp_deviceId]; exact h

/-! ## Loads and stores -/

/-- A load reads what is held. -/
theorem step_load {s : Shape} {e : EltTy} {b : Memref sig .tc .vmem s e} {r : LoadRect s} {hl : b.view.LoadsAt r}
    {k : (r.shape.Idx → Elt F e) → Prog (TpuEff nD τ sig (Elt F) Λ₀ .tc) α}
    {S : Finset (Idx (b.view.loc (c : Thread nD τ)))} {q : PosShare TreeShare} {f : Buf (Elt F) (b.view.loc (c : Thread nD τ))}
    {v : r.shape.Idx → Elt F e}
    (hP : P ⊢ iprop((b.view.loc (c : Thread nD τ) ↦[S]{q} f) ∗ ((b.view.loc (c : Thread nD τ) ↦[S]{q} f) -∗ P)))
    (hS : b.view.setOn r.set ⊆ S) (hv : b.view.readAt (Elt F) r f = v) (h : P ⊢ WP c (k v) Q) :
    P ⊢ WP c (.op (.load b r hl) k) Q := by
  subst hv
  refine hP.trans ?_
  iintro ⟨H, Hb⟩
  iapply (wp_load 𝒱₀ (c : Thread nD τ) none Set.univ (m := b) hS) $$ H
  iintro H
  iapply h; iapply Hb; iexact H

/-- A store turns the old contents into the new ones. -/
theorem step_store {s : Shape} {e : EltTy} {b : Memref sig .tc .vmem s e} {r : Rect s} {w : r.shape.Idx → Elt F e} {Mk : Finset r.shape.Idx}
    {hx : (b.access r).Stores Mk} {hm : Mk = Finset.univ ∨ ∀ a, r.stride a = 1}
    {k : PUnit → Prog (TpuEff nD τ sig (Elt F) Λ₀ .tc) α}
    {S : Finset (Idx ((b.access r).loc (c : Thread nD τ)))} {f g : Buf (Elt F) ((b.access r).loc (c : Thread nD τ))}
    (hP : P ⊢ iprop(((b.access r).loc (c : Thread nD τ) ↦[S]{fullShare} f) ∗ (((b.access r).loc (c : Thread nD τ) ↦[S]{fullShare} g) -∗ P')))
    (hS : (b.access r).setOn Mk ⊆ S) (hv : (b.access r).write (Elt F) f w Mk = g) (h : P' ⊢ WP c (k ⟨⟩) Q) :
    P ⊢ WP c (.op (.store b r w Mk hx hm) k) Q := by
  subst hv
  refine hP.trans ?_
  iintro ⟨H, Hb⟩
  iapply (wp_store 𝒱₀ (c : Thread nD τ) none Set.univ (m := b) hS) $$ H
  iintro H
  iapply h; iapply Hb; iexact H

/-! ## The barrier -/

/-- After the barrier only blocks and rows are owed, and they lie above it. -/
theorem above_blocks : Above (lv ((c : Thread nD τ), .reg barS) ()) (owedARecv c 0 + owedRecv c 0) :=
  Above.add (above_arecv (show 1 < 3 by decide) c) (above_recv (show 1 < 2 by decide) c)

/-- The levels allow a wait while everything owed lies above the awaited cell. -/
theorem Ctx_mayWait (sm : SemLoc sig) {O : CellTallies nD τ sig Unit} (h : Above (lv ((c : Thread nD τ), sm) ()) O) :
    Ctx m ρ K ⊢ MayWait (c : Thread nD τ) sm () O := by
  unfold Ctx
  iintro ⟨-, -, #H⟩
  iapply (mayWait (F := F) c sm O h)
  iexact H

/-- One signal: the unit hands over the slot and the row that are reserved for the receiver. -/
theorem step_sig {n : ℕ} {hn : n < 31} {d : Dev nD} {v : ℤ} {k : PUnit → Prog (TpuEff nD τ sig (Elt F) Λ₀ .tc) α}
    (hd : d.val = (c.val + n + 1) % 32) (hv : v = ((1 : ℕ) : ℤ)) (h : iprop(Ctx m ρ K ∗ Sig c (n + 1) ∗ R) ⊢ WP c (k ⟨⟩) Q) :
    iprop(Ctx m ρ K ∗ Sig c n ∗ R) ⊢ WP c (.op (.semSignal (d, .tc) barS v) k) Q := by
  subst hv
  obtain rfl : d = fwd c ⟨n, hn⟩ := Fin.ext hd
  iintro ⟨#HC, HS, HR⟩
  unfold Sig Owe
  icases HS with ⟨Ht, ⟨%W, HO⟩⟩
  ihave Ht := (Entails.of_eq (todo_pick n hn _)) $$ Ht
  icases Ht with ⟨⟨Htok, Hpay⟩, Ht⟩
  iapply (Rounds.wp_signal 𝒱₀ ER (Rd m ρ) (c : Thread nD τ) none (dst := (fwd c ⟨n, hn⟩ : Thread nD τ)) (κ := K (fwd c ⟨n, hn⟩, none))
      (r := 0) (d := ⟨n, hn⟩) (by rw [duties_bar]; exact Finset.mem_univ _) (amount_bar m ρ (fwd c ⟨n, hn⟩) ⟨n, hn⟩) ()
      (O₀ := owedARecv c 0 + owedRecv c 0 + owedBar c n) (owedARecv c 0 + owedRecv c 0 + owedBar c (n + 1)) (W := W)
      ((congrArg (fun z => owedARecv c 0 + owedRecv c 0 + z) (owedBar_step c ⟨n, hn⟩)).trans (add_assoc _ _ _).symm)) $$ [HO Htok Hpay]
  · isplitr; · iapply (Ctx_inv m ρ K (fwd c ⟨n, hn⟩, none)); iexact HC
    isplitl [HO]; · iexact HO
    isplitl [Htok]; · iexact Htok
    isplitl [Hpay]; · iapply (Entails.of_eq (payload_bar m ρ (fwd c ⟨n, hn⟩) ⟨n, hn⟩).symm); iexact Hpay
    iapply (Ctx_reached m ρ K (fwd c ⟨n, hn⟩, none)); iexact HC
  iintro HO
  iapply h
  isplitr; · iexact HC
  isplitr [HR]
  · unfold Sig Owe
    isplitl [Ht]; · iexact Ht
    iexists W; iexact HO
  iexact HR

/-- The barrier wait: with all 31 units come the slots and table rows reserved for `c` on its sources. -/
theorem step_barrier {v : ℤ} {k : PUnit → Prog (TpuEff nD τ sig (Elt F) Λ₀ .tc) α} (hv : v = ((31 : ℕ) : ℤ))
    (h : iprop(Ctx m ρ K ∗ Owe c (owedARecv c 0 + owedRecv c 0) ∗ atPos ER (barCell c) 1 ∅ 0 ∗ (bigSep Finset.univ (barPay (F := F) c)) ∗ R) ⊢ WP c (k ⟨⟩) Q) :
    iprop(Ctx m ρ K ∗ Sig c 31 ∗ (atPos ER (barCell c) 0 ∅ 0 ∗ cred (tallyAt (barCell c) () 31)) ∗ R) ⊢ WP c (.op (.semWait barS v) k) Q := by
  subst hv
  iintro ⟨#HC, HS, ⟨Hat, Hcr⟩, HR⟩
  unfold Sig Owe
  rw [owedBar_last, add_zero]
  icases HS with ⟨-, ⟨%W, HO⟩⟩
  iapply (Rounds.wp_wait_rest_token 𝒱₀ ER (Rd m ρ) (c : Thread nD τ) none (κ := K (c, none))
      (wpE_semWait_eq 𝒱₀ (c : Thread nD τ) none Set.univ) (Set.mem_univ _) () (O := owedARecv c 0 + owedRecv c 0) (W := W) (R := 0) (m := 0) (T := ∅)
      ((Nat.zero_add 31).trans (expect_bar m ρ c).symm)) $$ [Hcr HO Hat]
  · isplitr; · iapply (Ctx_inv m ρ K (c, none)); iexact HC
    isplitl [Hcr]; · iexact Hcr
    isplitl [HO]; · iexact HO
    isplitr
    · iapply (Ctx_mayWait m ρ K c (.reg barS) (above_blocks c)); iexact HC
    iexact Hat
  iintro ⟨HO, Hat, -, Hpay⟩
  ihave Hp := (Entails.of_eq (rest_bar m ρ c)) $$ Hpay
  iapply h
  isplitr; · iexact HC
  isplitl [HO]; · unfold Owe; iexists _; iexact HO
  isplitl [Hat]; · iexact Hat
  isplitl [Hp]; · iexact Hp
  iexact HR

/-! ## Remote copies -/

/-- A block's landing leaves its slot with the contents it should have, -/
theorem slotPts_written (s d : Dev nD) (f : (cc0_scratch0 : Ref sig .tc).ty.Contents (Elt F)) :
    ((slot s).view.loc (d : Thread nD τ) ↦[(slot s).view.set]{fullShare} ((slot s).view.write (Elt F) (f : Buf (Elt F) ((slot s).view.loc (d : Thread nD τ))) ((xrow d).view.read (Elt F) (xstg m ρ s)) Finset.univ))
      ⊢ (slotPts d s (blocks m ρ d) : sProp 𝕄) := by
  unfold slotPts
  exact Entails.of_eq (pointsTo_congr (slot_written m ρ s d f))

/-- and a row's landing its row of the table. -/
theorem growPts_written (s d : Dev nD) (f : (cc0_scratch2 : Ref sig .tc).ty.Contents (Elt F)) :
    ((grow s).view.loc (d : Thread nD τ) ↦[(grow s).view.set]{fullShare} ((grow s).view.write (Elt F) (f : Buf (Elt F) ((grow s).view.loc (d : Thread nD τ))) (mM.view.read (Elt F) (amaxOf m ρ s)) Finset.univ))
      ⊢ (growPts d s (table m ρ) : sProp 𝕄) := by
  unfold growPts
  exact Entails.of_eq (pointsTo_congr (grow_written (amaxOf m ρ) s f))

/-- So a landed block is the payload that its arrival promises, -/
theorem pay_recv (r : Fin 31) : (slotPts (fwd c r) c (blocks m ρ (fwd c r)) : sProp 𝕄) ⊢ pay m ρ (fwd c r) (.recv r) :=
  Entails.of_eq (congrArg (fun s => slotPts (fwd c r) s (blocks m ρ (fwd c r))) (bwd_fwd c r).symm)
/-- and a landed row is too. -/
theorem pay_arecv (r : Fin 31) : (growPts (fwd c r) c (table m ρ) : sProp 𝕄) ⊢ pay m ρ (fwd c r) (.arecv r) :=
  Entails.of_eq (congrArg (fun s => growPts (fwd c r) s (table m ρ)) (bwd_fwd c r).symm)

/-- A copy into a slot credits a block, -/
theorem amount_slot (s : Dev nD) (q : DmaSem sig) : (slot s).view.amount (.dma q) = NB := rfl
/-- a copy into a row of the table credits a row. -/
theorem amount_grow (s : Dev nD) (q : DmaSem sig) : (grow s).view.amount (.dma q) = NG := rfl

/-- One block goes out: step `n` sends row block `fwd c n` into slot `c` of device `fwd c n`. -/
theorem step_snd {n : ℕ} {hn : n < 31} {d : Dev nD} {v v' : DmaSem sig} {srcM dstM : Memref sig .tc .vmem S128x128 .f32}
    {hsc : dstM.view.ref.isScScratch = false} {hsrc : srcM.view.WordExact} {hdst : dstM.view.WordExact}
    {hsem : DmaTarget.Typed .vmem (.dma v') (.remote (Dev.tc d) dstM (.dma v) hsc)} {k : PUnit → Prog (TpuEff nD τ sig (Elt F) Λ₀ .tc) α}
    (hd : d.val = (c.val + n + 1) % 32) (hv : v = dsem (iSend ⟨n, hn⟩)) (hv' : v' = dsem (iRecv ⟨n, hn⟩))
    (hs : srcM = xrow (fwd c ⟨n, hn⟩)) (ht : dstM = slot c)
    (h : iprop(Ctx m ρ K ∗ Snd m ρ c (n + 1) ∗ R) ⊢ WP c (k ⟨⟩) Q) :
    iprop(Ctx m ρ K ∗ Snd m ρ c n ∗ R) ⊢ WP c (.op (.enqueueDma srcM (.remote (Dev.tc d) dstM (.dma v) hsc) (.dma v') hsrc hdst hsem) k) Q := by
  obtain rfl : d = fwd c ⟨n, hn⟩ := Fin.ext hd
  subst hv hv' hs ht
  iintro ⟨#HC, HS, HR⟩
  unfold Snd Owe
  icases HS with ⟨Ht, Hc, ⟨%W, HO⟩⟩
  ihave Ht := (Entails.of_eq (todo_pick n hn _)) $$ Ht
  icases Ht with ⟨⟨Hx, ⟨%f, Hs⟩, Ht₁, Ht₂⟩, Ht⟩
  iapply (Rounds.wp_send_pointsTo 𝒱₀ ER (Rd m ρ) (c : Thread nD τ) none (c' := (fwd c ⟨n, hn⟩ : Thread nD τ)) (src := xrow (fwd c ⟨n, hn⟩)) (dst := slot c) (fs := xstg m ρ c) (fd := f)
      (κ₁ := K (c, some (iSend ⟨n, hn⟩))) (κ₂ := K (fwd c ⟨n, hn⟩, some (iRecv ⟨n, hn⟩)))
      (r₁ := 0) (r₂ := 0) (d₁ := 0) (d₂ := 0)
      (by rw [duties_dma m ρ c _ (by rw [use_send]; exact Use.noConfusion)]; exact Finset.mem_singleton_self _)
      (by rw [duties_dma m ρ _ _ (by rw [use_recv]; exact Use.noConfusion)]; exact Finset.mem_singleton_self _)
      () () NB (amount_slot _ _) ((amount_dma m ρ c _ 0).trans (by rw [use_send]; rfl)) ((amount_dma m ρ _ _ 0).trans (by rw [use_recv]; rfl))
      (O₀ := owedARecv c 0 + owedRecv c n) (owedARecv c 0 + owedRecv c (n + 1))
      ((congrArg (fun z => owedARecv c 0 + z) (owedRecv_step c ⟨n, hn⟩)).trans (add_assoc _ _ _).symm) (W := W)
      (by rw [payload_dma m ρ c, use_send]; exact Entails.rfl)
      (by rw [payload_dma m ρ, use_recv]; exact (slotPts_written m ρ c (fwd c ⟨n, hn⟩) f).trans (pay_recv m ρ c ⟨n, hn⟩))) $$ [HO Hx Hs Ht₁ Ht₂]
  · isplitr; · iapply (Ctx_inv m ρ K (c, some (iSend ⟨n, hn⟩))); iexact HC
    isplitr; · iapply (Ctx_inv m ρ K (fwd c ⟨n, hn⟩, some (iRecv ⟨n, hn⟩))); iexact HC
    isplitl [Hx]; · unfold xPts; iexact Hx
    isplitl [Hs]; · unfold slotPts; iexact Hs
    isplitl [HO]; · iexact HO
    isplitl [Ht₁]; · iexact Ht₁
    isplitr; · iapply (Ctx_reached m ρ K (c, some (iSend ⟨n, hn⟩))); iexact HC
    isplitl [Ht₂]; · iexact Ht₂
    iapply (Ctx_reached m ρ K (fwd c ⟨n, hn⟩, some (iRecv ⟨n, hn⟩))); iexact HC
  iintro ⟨Hcr, HO⟩
  iapply h
  isplitr; · iexact HC
  isplitr [HR]
  · unfold Snd Owe
    isplitl [Ht]; · iexact Ht
    isplitl [Hc Hcr]
    · iapply (Entails.of_eq (done_put n hn _).symm)
      isplitl [Hcr]; · iexact Hcr
      iexact Hc
    iexists W; iexact HO
  iexact HR

/-- One row of maxima goes out: step `n` sends device `c`'s row into row `c` of the table of device `fwd c n`. -/
theorem step_asnd {n : ℕ} {hn : n < 31} {d : Dev nD} {v v' : DmaSem sig} {dstM : Memref sig .tc .vmem S1x128 .f32}
    {hsc : dstM.view.ref.isScScratch = false} {hsrc : (mM.view).WordExact} {hdst : dstM.view.WordExact}
    {hsem : DmaTarget.Typed .vmem (.dma v') (.remote (Dev.tc d) dstM (.dma v) hsc)} {k : PUnit → Prog (TpuEff nD τ sig (Elt F) Λ₀ .tc) α}
    (hd : d.val = (c.val + n + 1) % 32) (hv : v = dsem (iASend ⟨n, hn⟩)) (hv' : v' = dsem (iARecv ⟨n, hn⟩)) (ht : dstM = grow c)
    (h : iprop(Ctx m ρ K ∗ ASnd m ρ c (n + 1) ∗ R) ⊢ WP c (k ⟨⟩) Q) :
    iprop(Ctx m ρ K ∗ ASnd m ρ c n ∗ R) ⊢ WP c (.op (.enqueueDma mM (.remote (Dev.tc d) dstM (.dma v) hsc) (.dma v') hsrc hdst hsem) k) Q := by
  obtain rfl : d = fwd c ⟨n, hn⟩ := Fin.ext hd
  subst hv hv' ht
  iintro ⟨#HC, HS, HR⟩
  unfold ASnd Owe
  icases HS with ⟨Ht, Hc, ⟨%W, HO⟩⟩
  ihave Ht := (Entails.of_eq (todo_pick n hn _)) $$ Ht
  icases Ht with ⟨⟨Hx, ⟨%f, Hs⟩, Ht₁, Ht₂⟩, Ht⟩
  iapply (Rounds.wp_send_pointsTo 𝒱₀ ER (Rd m ρ) (c : Thread nD τ) none (c' := (fwd c ⟨n, hn⟩ : Thread nD τ)) (src := mM) (dst := grow c) (fs := amaxOf m ρ c) (fd := f)
      (q := Transfers.shareTok fullShare 31 ⟨n, hn⟩)
      (κ₁ := K (c, some (iASend ⟨n, hn⟩))) (κ₂ := K (fwd c ⟨n, hn⟩, some (iARecv ⟨n, hn⟩)))
      (r₁ := 0) (r₂ := 0) (d₁ := 0) (d₂ := 0)
      (by rw [duties_dma m ρ c _ (by rw [use_asend]; exact Use.noConfusion)]; exact Finset.mem_singleton_self _)
      (by rw [duties_dma m ρ _ _ (by rw [use_arecv]; exact Use.noConfusion)]; exact Finset.mem_singleton_self _)
      () () NG (amount_grow _ _) ((amount_dma m ρ c _ 0).trans (by rw [use_asend]; rfl)) ((amount_dma m ρ _ _ 0).trans (by rw [use_arecv]; rfl))
      (O₀ := owedARecv c n) (owedARecv c (n + 1)) (owedARecv_step c ⟨n, hn⟩) (W := W)
      (by rw [payload_dma m ρ c, use_asend]; exact Entails.rfl)
      (by rw [payload_dma m ρ, use_arecv]; exact (growPts_written m ρ c (fwd c ⟨n, hn⟩) f).trans (pay_arecv m ρ c ⟨n, hn⟩))) $$ [HO Hx Hs Ht₁ Ht₂]
  · isplitr; · iapply (Ctx_inv m ρ K (c, some (iASend ⟨n, hn⟩))); iexact HC
    isplitr; · iapply (Ctx_inv m ρ K (fwd c ⟨n, hn⟩, some (iARecv ⟨n, hn⟩))); iexact HC
    isplitl [Hx]; · unfold mPts; iexact Hx
    isplitl [Hs]; · unfold growPts; iexact Hs
    isplitl [HO]; · iexact HO
    isplitl [Ht₁]; · iexact Ht₁
    isplitr; · iapply (Ctx_reached m ρ K (c, some (iASend ⟨n, hn⟩))); iexact HC
    isplitl [Ht₂]; · iexact Ht₂
    iapply (Ctx_reached m ρ K (fwd c ⟨n, hn⟩, some (iARecv ⟨n, hn⟩))); iexact HC
  iintro ⟨Hcr, HO⟩
  iapply h
  isplitr; · iexact HC
  isplitr [HR]
  · unfold ASnd Owe
    isplitl [Ht]; · iexact Ht
    isplitl [Hc Hcr]
    · iapply (Entails.of_eq (done_put n hn _).symm)
      isplitl [Hcr]; · iexact Hcr
      iexact Hc
    iexists W; iexact HO
  iexact HR

/-! ## Local copies -/

/-- The device's own block goes into its own slot. -/
theorem step_copyB {v : DmaSem sig} {srcM dstM : Memref sig .tc .vmem S128x128 .f32}
    {hsrc : srcM.view.WordExact} {hdst : dstM.view.WordExact}
    {hsem : DmaTarget.Typed .vmem (.dma v) (.here dstM : DmaTarget nD τ sig .tc .vmem _ _)} {k : PUnit → Prog (TpuEff nD τ sig (Elt F) Λ₀ .tc) α}
    (hv : v = dsem iLocB) (hs : srcM = xrow c) (ht : dstM = slot c)
    (h : iprop(Ctx m ρ K ∗ Armed c iLocB ∗ R) ⊢ WP c (k ⟨⟩) Q) :
    iprop(Ctx m ρ K ∗ (xPts m ρ c c ∗ (∃ f, slotPts c c f) ∗ dutyTok ER (dCell c iLocB) 0 0 ∗ atPos ER (dCell c iLocB) 0 ∅ 0) ∗ R)
      ⊢ WP c (.op (.enqueueDma srcM (.here dstM) (.dma v) hsrc hdst hsem) k) Q := by
  subst hv hs ht
  iintro ⟨#HC, ⟨Hx, ⟨%f, Hs⟩, Ht, Hat⟩, HR⟩
  iapply (Rounds.wp_copy_pointsTo 𝒱₀ ER (Rd m ρ) (c : Thread nD τ) none (src := xrow c) (dst := slot c) (fs := xstg m ρ c) (fd := f) (q := fullShare)
      (κ := K (c, some iLocB)) (r := 0) (d := 0)
      (by rw [duties_dma m ρ c _ (by rw [use_locB]; exact Use.noConfusion)]; exact Finset.mem_singleton_self _)
      () NB (amount_slot _ _) ((amount_dma m ρ c _ 0).trans (by rw [use_locB]; rfl))
      (by rw [payload_dma m ρ c, use_locB]; unfold pay xPts; exact sep_mono_left (slotPts_written m ρ c c f))) $$ [Hx Hs Ht]
  · isplitr; · iapply (Ctx_inv m ρ K (c, some iLocB)); iexact HC
    isplitl [Hx]; · unfold xPts; iexact Hx
    isplitl [Hs]; · unfold slotPts; iexact Hs
    isplitl [Ht]; · iexact Ht
    iapply (Ctx_reached m ρ K (c, some iLocB)); iexact HC
  iintro Hcr
  iapply h
  isplitr; · iexact HC
  isplitr [HR]
  · unfold Armed; rw [use_locB]
    isplitl [Hat]; · iexact Hat
    iexact Hcr
  iexact HR

/-- The device's own row goes into its own table. -/
theorem step_copyG {v : DmaSem sig} {dstM : Memref sig .tc .vmem S1x128 .f32}
    {hsrc : mM.view.WordExact} {hdst : dstM.view.WordExact}
    {hsem : DmaTarget.Typed .vmem (.dma v) (.here dstM : DmaTarget nD τ sig .tc .vmem _ _)} {k : PUnit → Prog (TpuEff nD τ sig (Elt F) Λ₀ .tc) α}
    (hv : v = dsem iLocG) (ht : dstM = grow c)
    (h : iprop(Ctx m ρ K ∗ Armed c iLocG ∗ R) ⊢ WP c (k ⟨⟩) Q) :
    iprop(Ctx m ρ K ∗ (mPts m ρ (Transfers.shareDrop fullShare 31) c ∗ (∃ f, growPts c c f) ∗ dutyTok ER (dCell c iLocG) 0 0 ∗ atPos ER (dCell c iLocG) 0 ∅ 0) ∗ R)
      ⊢ WP c (.op (.enqueueDma mM (.here dstM) (.dma v) hsrc hdst hsem) k) Q := by
  subst hv ht
  iintro ⟨#HC, ⟨Hx, ⟨%f, Hs⟩, Ht, Hat⟩, HR⟩
  iapply (Rounds.wp_copy_pointsTo 𝒱₀ ER (Rd m ρ) (c : Thread nD τ) none (src := mM) (dst := grow c) (fs := amaxOf m ρ c) (fd := f)
      (q := Transfers.shareDrop fullShare 31) (κ := K (c, some iLocG)) (r := 0) (d := 0)
      (by rw [duties_dma m ρ c _ (by rw [use_locG]; exact Use.noConfusion)]; exact Finset.mem_singleton_self _)
      () NG (amount_grow _ _) ((amount_dma m ρ c _ 0).trans (by rw [use_locG]; rfl))
      (by rw [payload_dma m ρ c, use_locG]; unfold pay mPts; exact sep_mono_left (growPts_written m ρ c c f))) $$ [Hx Hs Ht]
  · isplitr; · iapply (Ctx_inv m ρ K (c, some iLocG)); iexact HC
    isplitl [Hx]; · unfold mPts; iexact Hx
    isplitl [Hs]; · unfold growPts; iexact Hs
    isplitl [Ht]; · iexact Ht
    iapply (Ctx_reached m ρ K (c, some iLocG)); iexact HC
  iintro Hcr
  iapply h
  isplitr; · iexact HC
  isplitr [HR]
  · unfold Armed; rw [use_locG]
    isplitl [Hat]; · iexact Hat
    iexact Hcr
  iexact HR

/-! ## Waits for transfers -/

/-- One wait on an armed semaphore, wherever it sits among the holdings. -/
theorem step_wait {i : Fin 130} {v : DmaSem sig} {s s' : Shape} {e e' : EltTy} {sp sp' : Space} {srcM : Memref sig .tc sp s e} {dstM : Memref sig .tc sp' s' e'}
    {hsrc : srcM.view.WordExact} {hdst : dstM.view.WordExact} {k : PUnit → Prog (TpuEff nD τ sig (Elt F) Λ₀ .tc) α} {O : CellTallies nD τ sig Unit}
    (hP : P ⊢ iprop(Ctx m ρ K ∗ Armed c i ∗ Owe c O ∗ ((Fired m ρ c i ∗ Owe c O) -∗ P')))
    (hv : v = dsem i) (hu : useOf (dsem i).val ≠ .none) (hN : dstM.view.dmaCredit = amt (useOf (dsem i).val))
    (hO : Above (lv (dCell c i) ()) O) (h : P' ⊢ WP c (k ⟨⟩) Q) :
    P ⊢ WP c (.op (.waitDma2 v srcM dstM hsrc hdst) k) Q := by
  subst hv
  refine hP.trans ?_
  iintro ⟨#HC, HA, HO, HR⟩
  unfold Armed Owe
  icases HA with ⟨Hat, Hcr⟩
  icases HO with ⟨%W, HO⟩
  iapply (Rounds.wp_wait_rest_token 𝒱₀ ER (Rd m ρ) (c : Thread nD τ) none (κ := K (c, some i))
      (wpE_waitDma2_eq 𝒱₀ (c : Thread nD τ) none Set.univ) (Set.mem_univ _) () (O := O) (W := W) (R := 0) (m := 0) (T := ∅)
      ((Nat.zero_add _).trans (hN.trans (expect_dma m ρ c i hu).symm))) $$ [Hcr HO Hat]
  · isplitr; · iapply (Ctx_inv m ρ K (c, some i)); iexact HC
    isplitl [Hcr]; · rw [hN]; iexact Hcr
    isplitl [HO]; · iexact HO
    isplitr
    · iapply (Ctx_mayWait m ρ K c (.dma (dsem i)) hO); iexact HC
    iexact Hat
  iintro ⟨HO, Hat, -, Hpay⟩
  ihave Hp := (Entails.of_eq (rest_dma m ρ c i hu)) $$ Hpay
  iapply h
  iapply HR
  isplitr [HO]
  · unfold Fired
    isplitl [Hat]; · iexact Hat
    iexact Hp
  iexists _; iexact HO

/-- A wait on a single semaphore. -/
theorem step_wait1 {i : Fin 130} {v : DmaSem sig} {s s' : Shape} {e e' : EltTy} {sp sp' : Space} {srcM : Memref sig .tc sp s e} {dstM : Memref sig .tc sp' s' e'}
    {hsrc : srcM.view.WordExact} {hdst : dstM.view.WordExact} {k : PUnit → Prog (TpuEff nD τ sig (Elt F) Λ₀ .tc) α} {O : CellTallies nD τ sig Unit}
    (hv : v = dsem i) (hu : useOf (dsem i).val ≠ .none) (hN : dstM.view.dmaCredit = amt (useOf (dsem i).val))
    (hO : Above (lv (dCell c i) ()) O) (h : iprop(Ctx m ρ K ∗ (Fired m ρ c i ∗ Owe c O) ∗ R) ⊢ WP c (k ⟨⟩) Q) :
    iprop(Ctx m ρ K ∗ (Armed c i ∗ Owe c O) ∗ R) ⊢ WP c (.op (.waitDma2 v srcM dstM hsrc hdst) k) Q := by
  refine step_wait m ρ K c ?_ hv hu hN hO h
  iintro ⟨#HC, ⟨HA, HO⟩, HR⟩
  isplitr; · iexact HC
  isplitl [HA]; · iexact HA
  isplitl [HO]; · iexact HO
  iintro ⟨HA, HO⟩
  isplitr; · iexact HC
  isplitl [HA HO]
  · isplitl [HA]; · iexact HA
    iexact HO
  iexact HR

/-- A family's next wait, taken out and put back when it has fired. -/
theorem wts_step (ix : Fin 31 → Fin 130) (n : ℕ) (hn : n < 31) :
    Wts m ρ ix c n ⊢ iprop(Armed c (ix ⟨n, hn⟩) ∗ (Fired m ρ c (ix ⟨n, hn⟩) -∗ Wts m ρ ix c (n + 1))) := by
  unfold Wts
  iintro ⟨Ht, Hd⟩
  ihave Ht := (Entails.of_eq (todo_pick n hn _)) $$ Ht
  icases Ht with ⟨HA, Ht⟩
  isplitl [HA]; · iexact HA
  iintro HF
  isplitl [Ht]; · iexact Ht
  iapply (Entails.of_eq (done_put n hn _).symm)
  isplitl [HF]; · iexact HF
  iexact Hd

/-- A wait in a family of semaphores. -/
theorem step_wts {ix : Fin 31 → Fin 130} {n : ℕ} {hn : n < 31} {v : DmaSem sig} {s s' : Shape} {e e' : EltTy} {sp sp' : Space} {srcM : Memref sig .tc sp s e} {dstM : Memref sig .tc sp' s' e'}
    {hsrc : srcM.view.WordExact} {hdst : dstM.view.WordExact} {k : PUnit → Prog (TpuEff nD τ sig (Elt F) Λ₀ .tc) α} {O : CellTallies nD τ sig Unit}
    (hv : v = dsem (ix ⟨n, hn⟩)) (hu : useOf (dsem (ix ⟨n, hn⟩)).val ≠ .none) (hN : dstM.view.dmaCredit = amt (useOf (dsem (ix ⟨n, hn⟩)).val))
    (hO : Above (lv (dCell c (ix ⟨n, hn⟩)) ()) O) (h : iprop(Ctx m ρ K ∗ (Wts m ρ ix c (n + 1) ∗ Owe c O) ∗ R) ⊢ WP c (k ⟨⟩) Q) :
    iprop(Ctx m ρ K ∗ (Wts m ρ ix c n ∗ Owe c O) ∗ R) ⊢ WP c (.op (.waitDma2 v srcM dstM hsrc hdst) k) Q := by
  refine step_wait m ρ K c ?_ hv hu hN hO h
  iintro ⟨#HC, ⟨HA, HO⟩, HR⟩
  ihave HA := (wts_step m ρ c ix n hn) $$ HA
  icases HA with ⟨HA, Hb⟩
  isplitr; · iexact HC
  isplitl [HA]; · iexact HA
  isplitl [HO]; · iexact HO
  iintro ⟨HA, HO⟩
  isplitr; · iexact HC
  isplitl [HA HO Hb]
  · isplitl [HA Hb]; · iapply Hb; iexact HA
    iexact HO
  iexact HR

end Cert.Exchange

end
-- ==== Proof.AccSteps.lean ====
/-
# AccSteps: the steps of the accumulation, and of the last waits

A step of the accumulation waits for a block, loads it and the rows of `w` that it meets, and adds their product.  The
last waits get the sources of the device's own sends back.
-/
module

public import proofs.«01_k».proof.Proof.Steps

@[expose] public section

noncomputable section

namespace Cert.Exchange

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Option (Fin 130) → ℕ)

variable {α : Type} {Q : α → sProp (MT nD τ sig Unit (Elt F) ℕ UU ℕ)} {P P' R : sProp (MT nD τ sig Unit (Elt F) ℕ UU ℕ)} (c : Dev nD)

/-! ## Pieces named by an offset -/

/-- The slice at an offset that works out to slot `s` is slot `s`. -/
theorem slot_at {o : Fin 3 → ℕ} {s : Dev nD} (ho : o = ![s.val, 0, 0]) (h : ∀ a, o a + S1x128x128.size a ≤ S32x128x128.size a) :
    (bM.slice (Rect.unit (s := S32x128x128) o S1x128x128.size h) (fun _ => rfl)).squeeze S128x128 squeezes_S1x128x128_S128x128 = slot s := by
  subst ho; rfl

/-- Loading slot `s` touches only slot `s`. -/
theorem bset (s : Dev nD) : bM.view.setOn (bR s).toLoadRect.set ⊆ (slot s).view.set := by
  refine Finset.Subset.trans ?_ (Finset.subset_of_eq (View.set_reshape (v := (bM.slice (bR s) (fun _ => rfl)).view) (s' := S128x128) _).symm)
  refine Finset.Subset.trans ?_ (Finset.subset_of_eq (View.set_slice (v := bM.view) (bR s)).symm)
  exact Finset.map_subset_map.mpr (Finset.Subset.refl _)

/-- The slice at an offset that works out to row block `s` of `x` is that row block. -/
theorem xrow_at {o : Fin 2 → ℕ} {s : Dev nD} (ho : o = ![128 * s.val, 0]) (h : ∀ a, o a + S128x128.size a ≤ S4096x128.size a) :
    xM.slice (Rect.unit (s := S4096x128) o S128x128.size h) (fun _ => rfl) = xrow s := by
  subst ho; rfl
/-- The slice at an offset that works out to row `s` of the table is that row. -/
theorem grow_at {o : Fin 2 → ℕ} {s : Dev nD} (ho : o = ![s.val, 0]) (h : ∀ a, o a + S1x128.size a ≤ S32x128.size a) :
    gM.slice (Rect.unit (s := S32x128) o S1x128.size h) (fun _ => rfl) = grow s := by
  subst ho; rfl

/-! ## Whole buffers -/

/-- A load from a buffer held whole. -/
theorem step_ldbuf {C : sProp (MT nD τ sig Unit (Elt F) ℕ UU ℕ)} {s : Shape} {e : EltTy} {b : Memref sig .tc .vmem s e} {r : LoadRect s} {hl : b.view.LoadsAt r}
    {k : (r.shape.Idx → Elt F e) → Prog (TpuEff nD τ sig (Elt F) Λ₀ .tc) α}
    {f : Buf (Elt F) (b.view.loc (c : Thread nD τ))} {v : r.shape.Idx → Elt F e}
    (hv : b.view.readAt (Elt F) r f = v) (h : iprop(C ∗ (b.view.loc (c : Thread nD τ) ↦{fullShare} f) ∗ R) ⊢ WP c (k v) Q) :
    iprop(C ∗ (b.view.loc (c : Thread nD τ) ↦{fullShare} f) ∗ R) ⊢ WP c (.op (.load b r hl) k) Q := by
  refine step_load c (S := Finset.univ) (q := fullShare) (f := f) ?_ (Finset.subset_univ _) hv h
  iintro ⟨HC, H, HR⟩
  isplitl [H]; · iexact H
  iintro H
  isplitl [HC]; · iexact HC
  isplitl [H]; · iexact H
  iexact HR

/-- A store over a whole buffer. -/
theorem step_stbuf {C : sProp (MT nD τ sig Unit (Elt F) ℕ UU ℕ)} {s : Shape} {e : EltTy} {b : Memref sig .tc .vmem s e} {r : Rect s} {w : r.shape.Idx → Elt F e}
    {hx : (b.access r).Stores Finset.univ} {hm : _} {k : PUnit → Prog (TpuEff nD τ sig (Elt F) Λ₀ .tc) α}
    {f g : Buf (Elt F) ((b.access r).loc (c : Thread nD τ))}
    (hv : (b.access r).write (Elt F) f w Finset.univ = g) (h : iprop(C ∗ ((b.access r).loc (c : Thread nD τ) ↦{fullShare} g) ∗ R) ⊢ WP c (k ⟨⟩) Q) :
    iprop(C ∗ ((b.access r).loc (c : Thread nD τ) ↦{fullShare} f) ∗ R) ⊢ WP c (.op (.store b r w Finset.univ hx hm) k) Q := by
  refine step_store c (S := Finset.univ) (f := f) (g := g) ?_ (Finset.subset_univ _) hv h
  iintro ⟨HC, H, HR⟩
  isplitl [H]; · iexact H
  iintro H
  isplitl [HC]; · iexact HC
  isplitl [H]; · iexact H
  iexact HR

/-- Loading the accumulator. -/
theorem step_ldacc {n : ℕ} {f : (cc0_scratch1 : Ref sig .tc).ty.Contents (Elt F)} {hb : ∀ a, (![0, 0] : Fin 2 → ℕ) a + S128x2048.size a ≤ S128x2048.size a}
    {hl : aM.view.LoadsAt (Rect.unit (s := S128x2048) ![0, 0] S128x2048.size hb).toLoadRect}
    {k : Vec F S128x2048 .f32 → Prog (TpuEff nD τ sig (Elt F) Λ₀ .tc) α}
    (h : iprop(Ctx m ρ K ∗ Acc m ρ c n f ∗ R) ⊢ WP c (k f) Q) :
    iprop(Ctx m ρ K ∗ Acc m ρ c n f ∗ R) ⊢ WP c (.op (.load aM (Rect.unit (s := S128x2048) ![0, 0] S128x2048.size hb).toLoadRect hl) k) Q := by
  refine step_load c (S := Finset.univ) (q := fullShare) (f := f) (v := f) ?_ (Finset.subset_univ _) (Memref.readAt_unit_zero (Elt F) (cc0_scratch1 : Ref sig .tc) hz2 hb f) h
  unfold Acc
  iintro ⟨HC, ⟨H1, H2, H3, H4, Ha⟩, HR⟩
  isplitl [Ha]; · iexact Ha
  iintro Ha
  isplitl [HC]; · iexact HC
  isplitr [HR]
  · isplitl [H1]; · iexact H1
    isplitl [H2]; · iexact H2
    isplitl [H3]; · iexact H3
    isplitl [H4]; · iexact H4
    iexact Ha
  iexact HR

/-- Storing the accumulator. -/
theorem step_stacc {n : ℕ} {f g w : (cc0_scratch1 : Ref sig .tc).ty.Contents (Elt F)} {hb : ∀ a, (![0, 0] : Fin 2 → ℕ) a + S128x2048.size a ≤ S128x2048.size a}
    {hx : (aM.access (Rect.unit (s := S128x2048) ![0, 0] S128x2048.size hb)).Stores Finset.univ} {hm : _}
    {k : PUnit → Prog (TpuEff nD τ sig (Elt F) Λ₀ .tc) α}
    (hw : w = g) (h : iprop(Ctx m ρ K ∗ Acc m ρ c n g ∗ R) ⊢ WP c (k ⟨⟩) Q) :
    iprop(Ctx m ρ K ∗ Acc m ρ c n f ∗ R) ⊢ WP c (.op (.store aM (Rect.unit (s := S128x2048) ![0, 0] S128x2048.size hb) w Finset.univ hx hm) k) Q := by
  subst hw
  refine step_store c (S := Finset.univ) (f := f) (g := w) ?_ (Finset.subset_univ _) (Memref.write_access_unit_zero_univ (Elt F) (cc0_scratch1 : Ref sig .tc) hz2 hb f w) h
  unfold Acc
  iintro ⟨HC, ⟨H1, H2, H3, H4, Ha⟩, HR⟩
  isplitl [Ha]; · iexact Ha
  iintro Ha
  isplitl [HC]; · iexact HC
  isplitr [HR]
  · isplitl [H1]; · iexact H1
    isplitl [H2]; · iexact H2
    isplitl [H3]; · iexact H3
    isplitl [H4]; · iexact H4
    iexact Ha
  iexact HR

/-- Loading the rows of `w` that go with source `s`. -/
theorem step_ldw {n : ℕ} {s : Dev nD} {f : (cc0_scratch1 : Ref sig .tc).ty.Contents (Elt F)} {o : Fin 2 → ℕ} {hb : ∀ a, o a + S128x2048.size a ≤ S4096x2048.size a}
    {hl : wM.view.LoadsAt (Rect.unit (s := S4096x2048) o S128x2048.size hb).toLoadRect}
    {k : Vec F S128x2048 .f32 → Prog (TpuEff nD τ sig (Elt F) Λ₀ .tc) α} (ho : o = ![128 * s.val, 0])
    (h : iprop(Ctx m ρ K ∗ Acc m ρ c n f ∗ R) ⊢ WP c (k (wVal m ρ c s)) Q) :
    iprop(Ctx m ρ K ∗ Acc m ρ c n f ∗ R) ⊢ WP c (.op (.load wM (Rect.unit (s := S4096x2048) o S128x2048.size hb).toLoadRect hl) k) Q := by
  subst ho
  refine step_load c (S := Finset.univ) (q := fullShare) (f := wstg m ρ c) (v := wVal m ρ c s) ?_ (Finset.subset_univ _) rfl h
  unfold Acc
  iintro ⟨HC, ⟨H1, H2, H3, H4, Ha⟩, HR⟩
  isplitl [H4]; · iexact H4
  iintro H4
  isplitl [HC]; · iexact HC
  isplitr [HR]
  · isplitl [H1]; · iexact H1
    isplitl [H2]; · iexact H2
    isplitl [H3]; · iexact H3
    isplitl [H4]; · iexact H4
    iexact Ha
  iexact HR

/-- Loading the device's own block. -/
theorem step_ldown {n : ℕ} {f : (cc0_scratch1 : Ref sig .tc).ty.Contents (Elt F)} {o : Fin 3 → ℕ} {hb : ∀ a, o a + S1x128x128.size a ≤ S32x128x128.size a}
    {hl : bM.view.LoadsAt (Rect.unit (s := S32x128x128) o S1x128x128.size hb).toLoadRect}
    {k : Vec F S1x128x128 .f32 → Prog (TpuEff nD τ sig (Elt F) Λ₀ .tc) α} (ho : o = ![c.val, 0, 0])
    (h : iprop(Ctx m ρ K ∗ Acc m ρ c n f ∗ R) ⊢ WP c (k (blkVal m ρ c c)) Q) :
    iprop(Ctx m ρ K ∗ Acc m ρ c n f ∗ R) ⊢ WP c (.op (.load bM (Rect.unit (s := S32x128x128) o S1x128x128.size hb).toLoadRect hl) k) Q := by
  subst ho
  refine step_load c (S := (slot c).view.set) (q := fullShare) (f := blocks m ρ c) (v := blkVal m ρ c c) ?_ (bset c) rfl h
  unfold Acc slotPts
  iintro ⟨HC, ⟨H1, H2, H3, H4, Ha⟩, HR⟩
  isplitl [H3]; · iexact H3
  iintro H3
  isplitl [HC]; · iexact HC
  isplitr [HR]
  · isplitl [H1]; · iexact H1
    isplitl [H2]; · iexact H2
    isplitl [H3]; · iexact H3
    isplitl [H4]; · iexact H4
    iexact Ha
  iexact HR

/-- The slot that arrived last can be taken out of what has arrived, and put back. -/
theorem fired_recv (n : ℕ) (hn : n < 31) :
    (bigSep (done (n + 1)) fun r => Fired m ρ c (iRecv r)) ⊢ iprop(slotPts c (src c n) (blocks m ρ c)
      ∗ (slotPts c (src c n) (blocks m ρ c) -∗ bigSep (done (n + 1)) fun r => Fired m ρ c (iRecv r))) := by
  refine (Entails.of_eq (done_put n hn _)).trans ?_
  have e : Fired m ρ c (iRecv ⟨n, hn⟩) = iprop(atPos ER (dCell c (iRecv ⟨n, hn⟩)) 1 ∅ 0 ∗ slotPts c (src c n) (blocks m ρ c)) := by
    unfold Fired; rw [use_recv]; rfl
  iintro ⟨HF, Hd⟩
  ihave HF := (Entails.of_eq e) $$ HF
  icases HF with ⟨Hat, H⟩
  isplitl [H]; · iexact H
  iintro H
  iapply (Entails.of_eq (done_put n hn (fun r => Fired m ρ c (iRecv r))).symm)
  isplitr [Hd]
  · iapply (Entails.of_eq e.symm)
    isplitl [Hat]; · iexact Hat
    iexact H
  iexact Hd

/-- Loading the block received last. -/
theorem step_ldblk {n : ℕ} {hn : n < 31} {f : (cc0_scratch1 : Ref sig .tc).ty.Contents (Elt F)} {o : Fin 3 → ℕ} {hb : ∀ a, o a + S1x128x128.size a ≤ S32x128x128.size a}
    {hl : bM.view.LoadsAt (Rect.unit (s := S32x128x128) o S1x128x128.size hb).toLoadRect}
    {k : Vec F S1x128x128 .f32 → Prog (TpuEff nD τ sig (Elt F) Λ₀ .tc) α} (ho : o = ![((c.val + 31) - n) % 32, 0, 0])
    (h : iprop(Ctx m ρ K ∗ Acc m ρ c (n + 1) f ∗ R) ⊢ WP c (k (blkVal m ρ c (src c n))) Q) :
    iprop(Ctx m ρ K ∗ Acc m ρ c (n + 1) f ∗ R) ⊢ WP c (.op (.load bM (Rect.unit (s := S32x128x128) o S1x128x128.size hb).toLoadRect hl) k) Q := by
  subst ho
  refine step_load c (S := (slot (src c n)).view.set) (q := fullShare) (f := blocks m ρ c) (v := blkVal m ρ c (src c n)) ?_ (bset (src c n)) rfl h
  unfold Acc Wts
  iintro ⟨HC, ⟨⟨H1, Hd⟩, H2, H3, H4, Ha⟩, HR⟩
  ihave Hd := (fired_recv m ρ c n hn) $$ Hd
  unfold slotPts
  icases Hd with ⟨Hs, Hb⟩
  isplitl [Hs]; · iexact Hs
  iintro Hs
  isplitl [HC]; · iexact HC
  isplitr [HR]
  · isplitl [H1 Hb Hs]
    · isplitl [H1]; · iexact H1
      iapply Hb; iexact Hs
    isplitl [H2]; · iexact H2
    isplitl [H3]; · iexact H3
    isplitl [H4]; · iexact H4
    iexact Ha
  iexact HR

/-- The wait for the next block. -/
theorem step_wacc {n : ℕ} {hn : n < 31} {f : (cc0_scratch1 : Ref sig .tc).ty.Contents (Elt F)} {v : DmaSem sig} {s s' : Shape} {e e' : EltTy} {sp sp' : Space}
    {srcM : Memref sig .tc sp s e} {dstM : Memref sig .tc sp' s' e'}
    {hsrc : srcM.view.WordExact} {hdst : dstM.view.WordExact} {k : PUnit → Prog (TpuEff nD τ sig (Elt F) Λ₀ .tc) α}
    (hv : v = dsem (iRecv ⟨n, hn⟩)) (hN : dstM.view.dmaCredit = NB)
    (h : iprop(Ctx m ρ K ∗ Acc m ρ c (n + 1) f ∗ R) ⊢ WP c (k ⟨⟩) Q) :
    iprop(Ctx m ρ K ∗ Acc m ρ c n f ∗ R) ⊢ WP c (.op (.waitDma2 v srcM dstM hsrc hdst) k) Q := by
  refine step_wait m ρ K c (O := owedARecv c 0) (P' := iprop(Ctx m ρ K ∗ Acc m ρ c (n + 1) f ∗ R)) ?_ hv (by rw [use_recv]; exact Use.noConfusion) (by rw [use_recv]; exact hN)
    (by rw [lv_recv]; exact above_arecv (show 2 < 3 by decide) c) h
  unfold Acc
  iintro ⟨#HC, ⟨H1, H2, H3, H4, Ha⟩, HR⟩
  ihave H1 := (wts_step m ρ c iRecv n hn) $$ H1
  icases H1 with ⟨HA, Hb⟩
  isplitr; · iexact HC
  isplitl [HA]; · iexact HA
  isplitl [H2]; · iexact H2
  iintro ⟨HA, H2⟩
  isplitr; · iexact HC
  isplitr [HR]
  · isplitl [HA Hb]; · iapply Hb; iexact HA
    isplitl [H2]; · iexact H2
    isplitl [H3]; · iexact H3
    isplitl [H4]; · iexact H4
    iexact Ha
  iexact HR

/-! ## The last waits -/

/-- `a` block sends and `b` row sends waited for, nothing owed. -/
def Fin' (c : Dev nD) (a b : ℕ) : sProp 𝕄 := iprop(Wts m ρ iSend c a ∗ Wts m ρ iASend c b ∗ Owe c 0)

/-- The wait for the next of the device's own block sends. -/
theorem step_wsend {n b : ℕ} {hn : n < 31} {v : DmaSem sig} {s s' : Shape} {e e' : EltTy} {sp sp' : Space}
    {srcM : Memref sig .tc sp s e} {dstM : Memref sig .tc sp' s' e'}
    {hsrc : srcM.view.WordExact} {hdst : dstM.view.WordExact} {k : PUnit → Prog (TpuEff nD τ sig (Elt F) Λ₀ .tc) α}
    (hv : v = dsem (iSend ⟨n, hn⟩)) (hN : dstM.view.dmaCredit = NB)
    (h : iprop(Ctx m ρ K ∗ Fin' m ρ c (n + 1) b ∗ R) ⊢ WP c (k ⟨⟩) Q) :
    iprop(Ctx m ρ K ∗ Fin' m ρ c n b ∗ R) ⊢ WP c (.op (.waitDma2 v srcM dstM hsrc hdst) k) Q := by
  refine step_wait m ρ K c (O := 0) (P' := iprop(Ctx m ρ K ∗ Fin' m ρ c (n + 1) b ∗ R)) ?_ hv (by rw [use_send]; exact Use.noConfusion) (by rw [use_send]; exact hN) (Above.zero _) h
  unfold Fin'
  iintro ⟨#HC, ⟨H1, H2, H3⟩, HR⟩
  ihave H1 := (wts_step m ρ c iSend n hn) $$ H1
  icases H1 with ⟨HA, Hb⟩
  isplitr; · iexact HC
  isplitl [HA]; · iexact HA
  isplitl [H3]; · iexact H3
  iintro ⟨HA, H3⟩
  isplitr; · iexact HC
  isplitr [HR]
  · isplitl [HA Hb]; · iapply Hb; iexact HA
    isplitl [H2]; · iexact H2
    iexact H3
  iexact HR

/-- The wait for the next of the device's own sends of the row of maxima. -/
theorem step_wasend {a n : ℕ} {hn : n < 31} {v : DmaSem sig} {s s' : Shape} {e e' : EltTy} {sp sp' : Space}
    {srcM : Memref sig .tc sp s e} {dstM : Memref sig .tc sp' s' e'}
    {hsrc : srcM.view.WordExact} {hdst : dstM.view.WordExact} {k : PUnit → Prog (TpuEff nD τ sig (Elt F) Λ₀ .tc) α}
    (hv : v = dsem (iASend ⟨n, hn⟩)) (hN : dstM.view.dmaCredit = NG)
    (h : iprop(Ctx m ρ K ∗ Fin' m ρ c a (n + 1) ∗ R) ⊢ WP c (k ⟨⟩) Q) :
    iprop(Ctx m ρ K ∗ Fin' m ρ c a n ∗ R) ⊢ WP c (.op (.waitDma2 v srcM dstM hsrc hdst) k) Q := by
  refine step_wait m ρ K c (O := 0) (P' := iprop(Ctx m ρ K ∗ Fin' m ρ c a (n + 1) ∗ R)) ?_ hv (by rw [use_asend]; exact Use.noConfusion) (by rw [use_asend]; exact hN) (Above.zero _) h
  unfold Fin'
  iintro ⟨#HC, ⟨H1, H2, H3⟩, HR⟩
  ihave H2 := (wts_step m ρ c iASend n hn) $$ H2
  icases H2 with ⟨HA, Hb⟩
  isplitr; · iexact HC
  isplitl [HA]; · iexact HA
  isplitl [H3]; · iexact H3
  iintro ⟨HA, H3⟩
  isplitr; · iexact HC
  isplitr [HR]
  · isplitl [H1]; · iexact H1
    isplitl [HA Hb]; · iapply Hb; iexact HA
    iexact H3
  iexact HR

/-- The wait for the next row of maxima. -/
theorem step_warecv {n : ℕ} {hn : n < 31} {v : DmaSem sig} {s s' : Shape} {e e' : EltTy} {sp sp' : Space}
    {srcM : Memref sig .tc sp s e} {dstM : Memref sig .tc sp' s' e'}
    {hsrc : srcM.view.WordExact} {hdst : dstM.view.WordExact} {k : PUnit → Prog (TpuEff nD τ sig (Elt F) Λ₀ .tc) α}
    (hv : v = dsem (iARecv ⟨n, hn⟩)) (hN : dstM.view.dmaCredit = NG)
    (h : iprop(Ctx m ρ K ∗ (Wts m ρ iARecv c (n + 1) ∗ Owe c 0) ∗ R) ⊢ WP c (k ⟨⟩) Q) :
    iprop(Ctx m ρ K ∗ (Wts m ρ iARecv c n ∗ Owe c 0) ∗ R) ⊢ WP c (.op (.waitDma2 v srcM dstM hsrc hdst) k) Q :=
  step_wts m ρ K c (ix := iARecv) (hn := hn) hv (by rw [use_arecv]; exact Use.noConfusion) (by rw [use_arecv]; exact hN) (Above.zero _) h

/-! ## The credit of a wait, whatever the offset -/

/-- A wait named by a slot takes a block's credit, -/
theorem credit_slot {o : Fin 3 → ℕ} (h : ∀ a, o a + S1x128x128.size a ≤ S32x128x128.size a) :
    ((bM.slice (Rect.unit (s := S32x128x128) o S1x128x128.size h) (fun _ => rfl)).squeeze S128x128 squeezes_S1x128x128_S128x128).view.dmaCredit = NB := rfl
/-- so does one named by a row block of `x`; -/
theorem credit_xrow {o : Fin 2 → ℕ} (h : ∀ a, o a + S128x128.size a ≤ S4096x128.size a) :
    (xM.slice (Rect.unit (s := S4096x128) o S128x128.size h) (fun _ => rfl)).view.dmaCredit = NB := rfl
/-- a wait named by a row of the table takes a row's credit, -/
theorem credit_grow {o : Fin 2 → ℕ} (h : ∀ a, o a + S1x128.size a ≤ S32x128.size a) :
    (gM.slice (Rect.unit (s := S32x128) o S1x128.size h) (fun _ => rfl)).view.dmaCredit = NG := rfl
/-- and so does one named by the row of maxima. -/
theorem credit_m : mM.view.dmaCredit = NG := rfl

end Cert.Exchange

end
-- ==== Proof.Phases.lean ====
/-
# From one phase of the body to the next

A buffer is the `∗` of its pieces, and each phase's state is made from what the phase before left.
-/
module

public import proofs.«01_k».proof.Proof.AccSteps

@[expose] public section

noncomputable section

namespace Cert.Exchange

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## All devices: the device itself and the 31 others -/

omit [FloatOps F] in
/-- Over all devices: the device itself and its 31 sources. -/
theorem dev_bwd (Φ : Dev nD → sProp 𝕄) : bigSep Finset.univ Φ = iprop(Φ c ∗ bigSep Finset.univ fun r => Φ (bwd c r)) := by
  have e : (Finset.univ : Finset (Dev nD)) = insert c (Finset.univ.image (bwd c)) := by
    refine (Finset.eq_univ_iff_forall.mpr fun s => ?_).symm
    by_cases h : s = c
    · exact h ▸ Finset.mem_insert_self _ _
    · obtain ⟨r, hr⟩ := exists_bwd c s h
      exact Finset.mem_insert_of_mem (Finset.mem_image.mpr ⟨r, Finset.mem_univ _, hr⟩)
  have hn : c ∉ Finset.univ.image (bwd c) := fun h => by
    obtain ⟨r, -, hr⟩ := Finset.mem_image.mp h
    exact src_ne c r hr
  rw [e, bigSep_insert hn, bigSep_image_of_injOn ((bwd_injective c).injOn)]
  rfl

omit [FloatOps F] in
/-- Over the sources or over the receivers: both are the 31 other devices. -/
theorem rev_fwd (Φ : Dev nD → sProp 𝕄) : (bigSep Finset.univ fun r => Φ (bwd c r)) = bigSep Finset.univ fun r => Φ (fwd c r) := by
  rw [bigSep_univ_equiv Fin.revPerm]
  exact bigSep_congr fun r _ => congrArg Φ (bwd_rev c r)

/-! ## A buffer and its pieces -/

omit [FloatOps F] in
/-- The staged block of `x` is its 32 row blocks, -/
theorem x_pieces : (bufPts c cc0_stg0_0 (xstg m ρ c) : sProp 𝕄) = iprop(xPts m ρ c c ∗ bigSep Finset.univ fun r => xPts m ρ c (fwd c r)) := by
  rw [← rev_fwd c (fun s => xPts m ρ c s), ← dev_bwd c (fun s => xPts m ρ c s)]
  refine Eq.trans ?_ (pointsTo_biUnion (ℓ := (c : Thread nD τ).loc cc0_stg0_0) Finset.univ xrowSet fun s _ t _ h => xrow_disjoint h)
  rw [xrow_cover]
omit [FloatOps F] in
/-- the buffer of blocks is its 32 slots, -/
theorem slot_pieces (f) : (bufPts c cc0_scratch0 f : sProp 𝕄) = iprop(slotPts c c f ∗ bigSep Finset.univ fun r => slotPts c (bwd c r) f) := by
  rw [← dev_bwd c (fun s => slotPts c s f)]
  refine Eq.trans ?_ (pointsTo_biUnion (ℓ := (c : Thread nD τ).loc cc0_scratch0) Finset.univ slotSet fun s _ t _ h => slot_disjoint h)
  rw [slot_cover]
omit [FloatOps F] in
/-- the table is its 32 rows, -/
theorem grow_pieces (f) : (bufPts c cc0_scratch2 f : sProp 𝕄) = iprop(growPts c c f ∗ bigSep Finset.univ fun r => growPts c (bwd c r) f) := by
  rw [← dev_bwd c (fun s => growPts c s f)]
  refine Eq.trans ?_ (pointsTo_biUnion (ℓ := (c : Thread nD τ).loc cc0_scratch2) Finset.univ growSet fun s _ t _ h => grow_disjoint h)
  rw [grow_cover]
/-- and the row of maxima is 31 shares, one for each send, and the share that is left. -/
theorem m_pieces : (bufPts c cc0_scratch3 (amaxOf m ρ c) : sProp 𝕄)
    ⊣⊢ iprop(mPts m ρ (Transfers.shareDrop fullShare 31) c ∗ bigSep Finset.univ fun r => mPts m ρ (Transfers.shareTok fullShare 31 r) c) := by
  have e : mM.view.set = (Finset.univ : Finset (cc0_scratch3 : Ref sig .tc).ty.shape.Idx) := View.set_whole _
  unfold mPts
  rw [e]
  exact ⟨Transfers.pointsTo_toks_split fullShare 31, Transfers.pointsTo_toks_join fullShare 31⟩

/-! ## The barrier's yield -/

/-- The barrier's yield is one slot and one table row on each receiver. -/
theorem bar_open : (bigSep Finset.univ (barPay (F := F) c)) ⊢ iprop((bigSep Finset.univ fun r => iprop(∃ f, slotPts (fwd c r) c f))
    ∗ bigSep Finset.univ fun r => iprop(∃ f, growPts (fwd c r) c f)) := by
  rw [← rev_fwd c (fun s => iprop(∃ f, slotPts s c f)), ← rev_fwd c (fun s => iprop(∃ f, growPts s c f)), ← bigSep_sep']
  exact Entails.rfl

/-! ## Sending -/

/-- The holdings that a block's transfers start from, -/
def sndSrc (c : Dev nD) : sProp 𝕄 := bigSep Finset.univ fun r => iprop(xPts m ρ c (fwd c r)
    ∗ dutyTok ER (dCell c (iSend r)) 0 0 ∗ dutyTok ER (dCell (fwd c r) (iRecv r)) 0 0)
/-- and the tokens of the rows' transfers. -/
def asndTok (c : Dev nD) : sProp 𝕄 := bigSep Finset.univ fun r => iprop(dutyTok ER (dCell c (iASend r)) 0 0 ∗ dutyTok ER (dCell (fwd c r) (iARecv r)) 0 0)
/-- The positions on a family of semaphores. -/
def posns (ix : Fin 31 → Fin 130) (c : Dev nD) : sProp 𝕄 := bigSep Finset.univ fun r => atPos ER (dCell c (ix r)) 0 ∅ 0

/-- With these sources and the slots on the receivers the sending of blocks may start. -/
theorem snd_intro : iprop(sndSrc m ρ c ∗ (bigSep Finset.univ fun r => iprop(∃ f, slotPts (fwd c r) c f)) ∗ Owe c (owedARecv c 0 + owedRecv c 0)) ⊢ Snd m ρ c 0 := by
  unfold Snd sndSrc
  rw [todo_zero, done_zero, bigSep_sep', bigSep_sep', bigSep_sep', bigSep_sep', bigSep_sep', bigSep_empty]
  iintro ⟨⟨H1, H2, H3⟩, H4, HO⟩
  isplitl [H1 H2 H3 H4]
  · isplitl [H1]; · iexact H1
    isplitl [H4]; · iexact H4
    isplitl [H2]; · iexact H2
    iexact H3
  isplitr
  · iempintro
  iexact HO

/-- With the shares of the row, the tokens and the table rows on the receivers the sending of rows may start. -/
theorem asnd_intro : iprop(asndTok c ∗ (bigSep Finset.univ fun r => mPts m ρ (Transfers.shareTok fullShare 31 r) c)
    ∗ (bigSep Finset.univ fun r => iprop(∃ f, growPts (fwd c r) c f)) ∗ Owe c (owedARecv c 0)) ⊢ ASnd m ρ c 0 := by
  unfold ASnd asndTok
  rw [todo_zero, done_zero, bigSep_sep', bigSep_sep', bigSep_sep', bigSep_sep', bigSep_empty]
  iintro ⟨⟨H2, H3⟩, H1, H4, HO⟩
  isplitl [H1 H2 H3 H4]
  · isplitl [H1]; · iexact H1
    isplitl [H4]; · iexact H4
    isplitl [H2]; · iexact H2
    iexact H3
  isplitr
  · iempintro
  iexact HO

/-- Positions and credits of a family are what its waits start from. -/
theorem wts_zero (ix : Fin 31 → Fin 130) (n : ℕ) (hn : ∀ r, amt (useOf (dsem (ix r)).val) = n) :
    iprop(posns ix c ∗ bigSep Finset.univ fun r => cred (tallyAt (dCell c (ix r)) () n)) ⊢ Wts m ρ ix c 0 := by
  unfold Wts posns Armed
  rw [todo_zero, done_zero, bigSep_sep', bigSep_empty, bigSep_congr fun r _ => congrArg (fun k => (cred (tallyAt (dCell c (ix r)) () k) : sProp 𝕄)) (hn r)]
  iintro ⟨H1, H2⟩
  isplitl [H1 H2]
  · isplitl [H1]; · iexact H1
    iexact H2
  iempintro

/-- When all blocks are sent, only their 31 waits are left to do. -/
theorem snd_done : iprop(Snd m ρ c 31 ∗ posns iSend c) ⊢ iprop(Wts m ρ iSend c 0 ∗ Owe c (owedARecv c 0)) := by
  unfold Snd
  rw [done_last, owedRecv_last, add_zero]
  iintro ⟨⟨-, Hc, HO⟩, Hp⟩
  isplitr [HO]
  · iapply (wts_zero m ρ c iSend NB (fun r => by rw [use_send]; rfl))
    isplitl [Hp]; · iexact Hp
    iexact Hc
  iexact HO

/-- When all rows are sent, only their 31 waits are left to do, and nothing is owed. -/
theorem asnd_done : iprop(ASnd m ρ c 31 ∗ posns iASend c) ⊢ iprop(Wts m ρ iASend c 0 ∗ Owe c 0) := by
  unfold ASnd
  rw [done_last, owedARecv_last]
  iintro ⟨⟨-, Hc, HO⟩, Hp⟩
  isplitr [HO]
  · iapply (wts_zero m ρ c iASend NG (fun r => by rw [use_asend]; rfl))
    isplitl [Hp]; · iexact Hp
    iexact Hc
  iexact HO

/-- After its last wait a family has fired at every step. -/
theorem wts_last (ix : Fin 31 → Fin 130) : Wts m ρ ix c 31 = iprop(emp ∗ bigSep Finset.univ fun r => Fired m ρ c (ix r)) := by
  unfold Wts; rw [todo_last, done_last, bigSep_empty]; rfl

/-- The device's own block brings its slot filled and the row block of `x` back, -/
theorem fired_locB : Fired m ρ c iLocB = iprop(atPos ER (dCell c iLocB) 1 ∅ 0 ∗ slotPts c c (blocks m ρ c) ∗ xPts m ρ c c) := by
  unfold Fired; rw [use_locB]; rfl
/-- its own row of maxima brings the table row filled and the share back. -/
theorem fired_locG : Fired m ρ c iLocG = iprop(atPos ER (dCell c iLocG) 1 ∅ 0 ∗ growPts c c (table m ρ) ∗ mPts m ρ (Transfers.shareDrop fullShare 31) c) := by
  unfold Fired; rw [use_locG]; rfl
/-- A family past its waits: the positions and what each wait brought. -/
def past (ix : Fin 31 → Fin 130) (c : Dev nD) : sProp 𝕄 := bigSep Finset.univ fun r => atPos ER (dCell c (ix r)) 1 ∅ 0

/-- After its last wait a family holds its positions and every payload. -/
theorem fired_all (ix : Fin 31 → Fin 130) (u : Fin 31 → Use) (h : ∀ r, useOf (dsem (ix r)).val = u r) :
    Wts m ρ ix c 31 ⊢ iprop(past ix c ∗ bigSep Finset.univ fun r => pay m ρ c (u r)) := by
  rw [wts_last]
  unfold Fired past
  rw [bigSep_sep', bigSep_congr fun r _ => congrArg (pay m ρ c) (h r)]
  iintro ⟨-, H⟩
  iexact H

/-! ## The turns between phases

`D` is what is finished with, `T` what is still to be used. -/

section Turns
variable {C D T : sProp (MT nD τ sig Unit (Elt F) ℕ UU ℕ)}

/-- What the barrier brings for the rows. -/
def growYield (c : Dev nD) : sProp 𝕄 := bigSep Finset.univ fun r => iprop(∃ f, growPts (fwd c r) c f)
/-- The position past the barrier. -/
abbrev barPast (c : Dev nD) : sProp 𝕄 := atPos ER (barCell c) 1 ∅ 0
/-- The device's own block, about to be copied into its slot, -/
abbrev ownB (c : Dev nD) : sProp 𝕄 := iprop(xPts m ρ c c ∗ (∃ f, slotPts c c f) ∗ dutyTok ER (dCell c iLocB) 0 0 ∗ atPos ER (dCell c iLocB) 0 ∅ 0)
/-- its row of the table, about to be written, -/
abbrev ownG (c : Dev nD) : sProp 𝕄 := iprop((∃ f, growPts c c f) ∗ dutyTok ER (dCell c iLocG) 0 0 ∗ atPos ER (dCell c iLocG) 0 ∅ 0)

/-- From the barrier to the sending of blocks. -/
theorem turn_bar : iprop(C ∗ Owe c (owedARecv c 0 + owedRecv c 0) ∗ barPast c ∗ (bigSep Finset.univ (barPay (F := F) c)) ∗ sndSrc m ρ c ∗ T)
    ⊢ iprop(C ∗ Snd m ρ c 0 ∗ barPast c ∗ growYield c ∗ T) := by
  iintro ⟨HC, HO, Hp, Hb, Hs, HT⟩
  ihave Hb := (bar_open c) $$ Hb
  icases Hb with ⟨H1, H2⟩
  isplitl [HC]; · iexact HC
  isplitl [Hs H1 HO]
  · iapply (snd_intro m ρ c)
    isplitl [Hs]; · iexact Hs
    isplitl [H1]; · iexact H1
    iexact HO
  isplitl [Hp]; · iexact Hp
  isplitl [H2]; · unfold growYield; iexact H2
  iexact HT

/-- From the sending of blocks to the copy of the device's own block. -/
theorem turn_sent : iprop(C ∗ Snd m ρ c 31 ∗ D ∗ growYield c ∗ posns iSend c ∗ ownB m ρ c ∗ T)
    ⊢ iprop(C ∗ ownB m ρ c ∗ Owe c (owedARecv c 0) ∗ (D ∗ Wts m ρ iSend c 0) ∗ growYield c ∗ T) := by
  iintro ⟨HC, HS, HD, HG, Hp, HB, HT⟩
  ihave H := (snd_done m ρ c) $$ [HS Hp]
  · isplitl [HS]; · iexact HS
    iexact Hp
  icases H with ⟨HW, HO⟩
  isplitl [HC]; · iexact HC
  isplitl [HB]; · iexact HB
  isplitl [HO]; · iexact HO
  isplitl [HD HW]
  · isplitl [HD]; · iexact HD
    iexact HW
  isplitl [HG]; · iexact HG
  iexact HT

/-- Two pieces brought together. -/
theorem turn_join {A O : sProp (MT nD τ sig Unit (Elt F) ℕ UU ℕ)} : iprop(C ∗ A ∗ O ∗ T) ⊢ iprop(C ∗ (A ∗ O) ∗ T) := by
  iintro ⟨HC, HA, HO, HT⟩
  isplitl [HC]; · iexact HC
  isplitr [HT]
  · isplitl [HA]; · iexact HA
    iexact HO
  iexact HT
/-- Two pieces exchanged. -/
theorem turn_swap {A O : sProp (MT nD τ sig Unit (Elt F) ℕ UU ℕ)} : iprop(C ∗ A ∗ O ∗ T) ⊢ iprop(C ∗ O ∗ A ∗ T) := by
  iintro ⟨HC, HA, HO, HT⟩
  isplitl [HC]; · iexact HC
  isplitl [HO]; · iexact HO
  isplitl [HA]; · iexact HA
  iexact HT

/-- From that copy to the accumulation. -/
theorem turn_acc {f} : iprop(C ∗ (Fired m ρ c iLocB ∗ Owe c (owedARecv c 0)) ∗ D ∗ growYield c ∗ Wts m ρ iRecv c 0 ∗ bufPts c cc0_stg1_0 (wstg m ρ c) ∗ bufPts c cc0_scratch1 f ∗ T)
    ⊢ iprop(C ∗ Acc m ρ c 0 f ∗ (D ∗ atPos ER (dCell c iLocB) 1 ∅ 0 ∗ xPts m ρ c c) ∗ growYield c ∗ T) := by
  iintro ⟨HC, ⟨HF, HO⟩, HD, HG, HW, H1, H2, HT⟩
  ihave HF := (Entails.of_eq (fired_locB m ρ c)) $$ HF
  icases HF with ⟨Hp, Hs, Hx⟩
  isplitl [HC]; · iexact HC
  isplitl [HW HO Hs H1 H2]
  · unfold Acc
    isplitl [HW]; · iexact HW
    isplitl [HO]; · iexact HO
    isplitl [Hs]; · iexact Hs
    isplitl [H1]; · iexact H1
    iexact H2
  isplitl [HD Hp Hx]
  · isplitl [HD]; · iexact HD
    isplitl [Hp]; · iexact Hp
    iexact Hx
  isplitl [HG]; · iexact HG
  iexact HT

/-- From the accumulation to the store of the row of maxima. -/
theorem turn_max {f g} : iprop(C ∗ Acc m ρ c 31 g ∗ D ∗ growYield c ∗ bufPts c cc0_scratch3 f ∗ T)
    ⊢ iprop(C ∗ bufPts c cc0_scratch3 f ∗ Owe c (owedARecv c 0)
      ∗ (D ∗ Wts m ρ iRecv c 31 ∗ slotPts c c (blocks m ρ c) ∗ bufPts c cc0_stg1_0 (wstg m ρ c) ∗ bufPts c cc0_scratch1 g) ∗ growYield c ∗ T) := by
  unfold Acc
  iintro ⟨HC, ⟨HW, HO, Hs, H1, H2⟩, HD, HG, H3, HT⟩
  isplitl [HC]; · iexact HC
  isplitl [H3]; · iexact H3
  isplitl [HO]; · iexact HO
  isplitl [HD HW Hs H1 H2]
  · isplitl [HD]; · iexact HD
    isplitl [HW]; · iexact HW
    isplitl [Hs]; · iexact Hs
    isplitl [H1]; · iexact H1
    iexact H2
  isplitl [HG]; · iexact HG
  iexact HT

/-- From that store to the sending of rows. -/
theorem turn_share : iprop(C ∗ bufPts c cc0_scratch3 (amaxOf m ρ c) ∗ Owe c (owedARecv c 0) ∗ D ∗ growYield c ∗ ownG c ∗ asndTok c ∗ T)
    ⊢ iprop(C ∗ (mPts m ρ (Transfers.shareDrop fullShare 31) c ∗ ownG c) ∗ ASnd m ρ c 0 ∗ D ∗ T) := by
  iintro ⟨HC, HM, HO, HD, HG, Hg, Ht, HT⟩
  ihave HM := (m_pieces m ρ c).1 $$ HM
  icases HM with ⟨HM, HMs⟩
  isplitl [HC]; · iexact HC
  isplitl [HM Hg]
  · isplitl [HM]; · iexact HM
    iexact Hg
  isplitl [HO HG Ht HMs]
  · iapply (asnd_intro m ρ c)
    isplitl [Ht]; · iexact Ht
    isplitl [HMs]; · iexact HMs
    isplitl [HG]; · unfold growYield; iexact HG
    iexact HO
  isplitl [HD]; · iexact HD
  iexact HT

/-- From the sending of rows to the wait for the device's own row. -/
theorem turn_asent {A : sProp (MT nD τ sig Unit (Elt F) ℕ UU ℕ)} : iprop(C ∗ ASnd m ρ c 31 ∗ A ∗ D ∗ posns iASend c ∗ T)
    ⊢ iprop(C ∗ (A ∗ Owe c 0) ∗ (D ∗ Wts m ρ iASend c 0) ∗ T) := by
  iintro ⟨HC, HS, HA, HD, Hp, HT⟩
  ihave H := (asnd_done m ρ c) $$ [HS Hp]
  · isplitl [HS]; · iexact HS
    iexact Hp
  icases H with ⟨HW, HO⟩
  isplitl [HC]; · iexact HC
  isplitl [HA HO]
  · isplitl [HA]; · iexact HA
    iexact HO
  isplitl [HD HW]
  · isplitl [HD]; · iexact HD
    iexact HW
  iexact HT

/-- From that wait to the waits for the other rows. -/
theorem turn_rows : iprop(C ∗ (Fired m ρ c iLocG ∗ Owe c 0) ∗ D ∗ Wts m ρ iARecv c 0 ∗ T)
    ⊢ iprop(C ∗ (Wts m ρ iARecv c 0 ∗ Owe c 0) ∗ growPts c c (table m ρ)
      ∗ (D ∗ atPos ER (dCell c iLocG) 1 ∅ 0 ∗ mPts m ρ (Transfers.shareDrop fullShare 31) c) ∗ T) := by
  iintro ⟨HC, ⟨HF, HO⟩, HD, HW, HT⟩
  ihave HF := (Entails.of_eq (fired_locG m ρ c)) $$ HF
  icases HF with ⟨Hp, Hg, Hm⟩
  isplitl [HC]; · iexact HC
  isplitl [HW HO]
  · isplitl [HW]; · iexact HW
    iexact HO
  isplitl [Hg]; · iexact Hg
  isplitl [HD Hp Hm]
  · isplitl [HD]; · iexact HD
    isplitl [Hp]; · iexact Hp
    iexact Hm
  iexact HT

/-- When all rows have arrived, the table is whole. -/
theorem turn_table : iprop(C ∗ (Wts m ρ iARecv c 31 ∗ Owe c 0) ∗ growPts c c (table m ρ) ∗ D ∗ T)
    ⊢ iprop(C ∗ bufPts c cc0_scratch2 (table m ρ) ∗ Owe c 0 ∗ (D ∗ past iARecv c) ∗ T) := by
  iintro ⟨HC, ⟨HW, HO⟩, Hg, HD, HT⟩
  ihave HW := (fired_all m ρ c iARecv .arecv use_arecv) $$ HW
  icases HW with ⟨Hp, Hr⟩
  isplitl [HC]; · iexact HC
  isplitl [Hg Hr]
  · iapply (Entails.of_eq (grow_pieces c (table m ρ)).symm)
    isplitl [Hg]; · iexact Hg
    iexact Hr
  isplitl [HO]; · iexact HO
  isplitl [HD Hp]
  · isplitl [HD]; · iexact HD
    iexact Hp
  iexact HT

/-- From the load of the table to the store of the result. -/
theorem turn_out {f} : iprop(C ∗ bufPts c cc0_scratch2 (table m ρ) ∗ Owe c 0 ∗ D ∗ bufPts c cc0_stg2_0 f ∗ T)
    ⊢ iprop(C ∗ bufPts c cc0_stg2_0 f ∗ Owe c 0 ∗ (D ∗ bufPts c cc0_scratch2 (table m ρ)) ∗ T) := by
  iintro ⟨HC, H2, HO, HD, H3, HT⟩
  isplitl [HC]; · iexact HC
  isplitl [H3]; · iexact H3
  isplitl [HO]; · iexact HO
  isplitl [HD H2]
  · isplitl [HD]; · iexact HD
    iexact H2
  iexact HT

/-- What a device holds after its last store, beside the two families of sends. -/
def Left (c : Dev nD) : sProp 𝕄 :=
  iprop(barPast c ∗ (atPos ER (dCell c iLocB) 1 ∅ 0 ∗ xPts m ρ c c)
    ∗ (Wts m ρ iRecv c 31 ∗ slotPts c c (blocks m ρ c) ∗ bufPts c cc0_stg1_0 (wstg m ρ c) ∗ bufPts c cc0_scratch1 (accAt m ρ c 31))
    ∗ (atPos ER (dCell c iLocG) 1 ∅ 0 ∗ mPts m ρ (Transfers.shareDrop fullShare 31) c)
    ∗ past iARecv c ∗ bufPts c cc0_scratch2 (table m ρ) ∗ bufPts c cc0_stg2_0 (outAt m ρ c))

/-- From the store of the result to the waits for the sends. -/
theorem turn_last : iprop(C ∗ bufPts c cc0_stg2_0 (outAt m ρ c) ∗ Owe c 0
      ∗ ((((((((barPast c ∗ Wts m ρ iSend c 0) ∗ atPos ER (dCell c iLocB) 1 ∅ 0 ∗ xPts m ρ c c)
        ∗ Wts m ρ iRecv c 31 ∗ slotPts c c (blocks m ρ c) ∗ bufPts c cc0_stg1_0 (wstg m ρ c) ∗ bufPts c cc0_scratch1 (accAt m ρ c 31))
        ∗ Wts m ρ iASend c 0) ∗ atPos ER (dCell c iLocG) 1 ∅ 0 ∗ mPts m ρ (Transfers.shareDrop fullShare 31) c) ∗ past iARecv c)
        ∗ bufPts c cc0_scratch2 (table m ρ))) ∗ T)
    ⊢ iprop(C ∗ Fin' m ρ c 0 0 ∗ Left m ρ c ∗ T) := by
  unfold Left Fin'
  iintro ⟨HC, H3, HO, ⟨⟨⟨⟨⟨⟨⟨Hb, HS⟩, HB⟩, HR⟩, HA⟩, HG⟩, Hp⟩, H2⟩, HT⟩
  isplitl [HC]; · iexact HC
  isplitl [HS HA HO]
  · isplitl [HS]; · iexact HS
    isplitl [HA]; · iexact HA
    iexact HO
  isplitr [HT]
  · isplitl [Hb]; · iexact Hb
    isplitl [HB]; · iexact HB
    isplitl [HR]; · iexact HR
    isplitl [HG]; · iexact HG
    isplitl [Hp]; · iexact Hp
    isplitl [H2]; · iexact H2
    iexact H3
  iexact HT

end Turns

/-! ## The two ends of the body -/

/-- What a device starts the body with, beside the invariants. -/
def Start (c : Dev nD) (fA : (cc0_scratch1 : Ref sig .tc).ty.Contents (Elt F)) (fM : (cc0_scratch3 : Ref sig .tc).ty.Contents (Elt F))
    (fO : (cc0_stg2_0 : Ref sig .tc).ty.Contents (Elt F)) (T : sProp 𝕄) : sProp 𝕄 :=
  iprop(sndSrc m ρ c ∗ posns iSend c ∗ ownB m ρ c ∗ Wts m ρ iRecv c 0 ∗ bufPts c cc0_stg1_0 (wstg m ρ c) ∗ bufPts c cc0_scratch1 fA
    ∗ bufPts c cc0_scratch3 fM ∗ ownG c ∗ asndTok c ∗ posns iASend c ∗ Wts m ρ iARecv c 0 ∗ bufPts c cc0_stg2_0 fO ∗ T)

end Cert.Exchange

end
-- ==== Proof.Deal.lean ====
/-
# Deal: how the launch hands out tokens, positions and credits

Every cell's duty tokens are minted at the cell.  The token for a unit or a transfer that step `r` of device `c` makes lies at
a cell of device `fwd c r`; step by step the tokens are therefore turned round the mesh to the device that spends them.
-/
module

public import proofs.«01_k».proof.Proof.Phases

@[expose] public section

noncomputable section

namespace Cert.Exchange

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The DMA semaphores by family -/

/-- The four semaphores that no step uses. -/
def idle (k : Fin 4) : Fin 130 := ⟨32 * k.val, by omega⟩
/-- The semaphores for copies within the device. -/
def own2 (k : Fin 2) : Fin 130 := ⟨128 + k.val, by omega⟩

/-- These four have no use. -/
theorem use_idle (k : Fin 4) : useOf (dsem (idle k)).val = .none := by fin_cases k <;> rfl

/-- The number of a semaphore from its family and its step. -/
def semNo : Fin 31 ⊕ Fin 31 ⊕ Fin 31 ⊕ Fin 31 ⊕ Fin 2 ⊕ Fin 4 → Fin 130 :=
  Sum.elim iSend (Sum.elim iRecv (Sum.elim iASend (Sum.elim iARecv (Sum.elim own2 idle))))

/-- Different families and steps have different semaphores. -/
theorem semNo_injective : Function.Injective semNo := by
  intro a b h
  have h' := congrArg Fin.val h
  rcases a with a | a | a | a | a | a <;> rcases b with b | b | b | b | b | b <;>
    simp only [semNo, Sum.elim_inl, Sum.elim_inr, iSend, iRecv, iASend, iARecv, own2, idle] at h' <;>
    first
      | (exfalso; omega)
      | (rw [show a = b from Fin.ext (by omega)])

/-- Every DMA semaphore belongs to a family. -/
def semEquiv : Fin 31 ⊕ Fin 31 ⊕ Fin 31 ⊕ Fin 31 ⊕ Fin 2 ⊕ Fin 4 ≃ Fin 130 :=
  Equiv.ofBijective semNo ((Fintype.bijective_iff_injective_and_card semNo).mpr ⟨semNo_injective, by simp⟩)

omit [FloatOps F] in
/-- Over all DMA semaphores: family by family. -/
theorem by_family (Φ : Fin 130 → sProp 𝕄) : bigSep Finset.univ Φ = iprop((bigSep Finset.univ fun r => Φ (iSend r)) ∗ (bigSep Finset.univ fun r => Φ (iRecv r))
    ∗ (bigSep Finset.univ fun r => Φ (iASend r)) ∗ (bigSep Finset.univ fun r => Φ (iARecv r)) ∗ (Φ iLocB ∗ Φ iLocG) ∗ bigSep Finset.univ fun k => Φ (idle k)) := by
  have e2 : (bigSep Finset.univ fun k => Φ (own2 k)) = iprop(Φ iLocB ∗ Φ iLocG) := bigSep_univ_eq_bigSepL [0, 1] (by decide) (by decide) _
  rw [← e2, bigSep_univ_equiv semEquiv, bigSep_univ_sum, bigSep_univ_sum, bigSep_univ_sum, bigSep_univ_sum, bigSep_univ_sum]
  rfl

omit [FloatOps F] in
/-- Over all of a device's semaphores: the barrier and the DMA semaphores. -/
theorem by_kind (Φ : Option (Fin 130) → sProp 𝕄) : bigSep Finset.univ Φ = iprop(Φ none ∗ bigSep Finset.univ fun i => Φ (some i)) := by
  have e : (bigSep Finset.univ fun _ : Fin 1 => Φ none) = Φ none := bigSep_univ_eq_bigSepL [0] (by decide) (by decide) _
  rw [bigSep_univ_equiv (((Equiv.sumComm (Fin 1) (Fin 130)).trans (Equiv.sumCongr (Equiv.refl (Fin 130)) (Equiv.equivPUnit.{1, 1} (Fin 1)))).trans (Equiv.optionEquivSumPUnit.{0, 0} (Fin 130)).symm), bigSep_univ_sum, ← e]
  rfl

/-! ## Cells and tokens -/

/-- Different devices or semaphores are different cells. -/
theorem kcell_injective : Function.Injective kcell := by
  rintro ⟨c, k⟩ ⟨c', k'⟩ h
  have h1 : c = c' := congrArg (fun g : GSem nD τ sig => g.1.1) h
  subst h1
  have h2 : csem k = csem k' := congrArg Prod.snd h
  rcases k with _ | i <;> rcases k' with _ | j
  · rfl
  · cases h2
  · cases h2
  · injection h2 with h3
    have h4 : (dsem i).val = (dsem j).val := congrArg Fin.val h3
    have : i = j := Fin.ext (by simpa [dsem] using h4)
    subst this; rfl

/-- The tokens of a device's cells: one per unit of its barrier, one per DMA semaphore. -/
abbrev tokAt : Dev nD × (Fin 31 ⊕ Fin 130) → GSem nD τ sig × ℕ × Fin 31
  | (c, .inl r) => (barCell c, 0, r)
  | (c, .inr i) => (dCell c i, 0, 0)
/-- Different tokens lie at different places. -/
theorem tokAt_injective : Function.Injective tokAt := by
  rintro ⟨c, k⟩ ⟨c', k'⟩ h
  have h0 : ∀ {a b : Dev nD × Option (Fin 130)}, kcell a = kcell b → a = b := fun h => kcell_injective h
  rcases k with r | i <;> rcases k' with r' | j
  · have h1 := h0 (a := (c, none)) (b := (c', none)) (congrArg Prod.fst h)
    have h2 : r = r' := congrArg (fun x : GSem nD τ sig × ℕ × Fin 31 => x.2.2) h
    cases h1; subst h2; rfl
  · have h1 := h0 (a := (c, none)) (b := (c', some j)) (congrArg Prod.fst h)
    cases h1
  · have h1 := h0 (a := (c, some i)) (b := (c', none)) (congrArg Prod.fst h)
    cases h1
  · have h1 := h0 (a := (c, some i)) (b := (c', some j)) (congrArg Prod.fst h)
    cases h1; rfl

/-- All cells of the exchange, -/
def cellSet : Finset (GSem nD τ sig) := Finset.univ.map ⟨kcell, kcell_injective⟩
/-- and all its tokens. -/
def tokSet : Finset (GSem nD τ sig × ℕ × Fin 31) := Finset.univ.map ⟨tokAt, tokAt_injective⟩

/-- The ghost state at launch. -/
def u₀ : UU := (initOf (Pipeline.cells cfgs cellOf_inj) (Pipeline.launchToks cfgs cellOf_inj), initOf cellSet tokSet)

/-- The tokens minted at device `c`'s cells. -/
def minted (c : Dev nD) : sProp 𝕄 :=
  iprop((bigSep Finset.univ fun r => dutyTok ER (barCell c) 0 r) ∗ bigSep Finset.univ fun i => dutyTok ER (dCell c i) 0 0)

/-- What the launch deals device `c`. -/
def G (c : Dev nD) : sProp 𝕄 :=
  iprop((bigSep Finset.univ fun k => roundState ER (Rd m ρ) (kcell (c, k)) 0)
    ∗ (bigSep Finset.univ fun k => iprop(atPos ER (kcell (c, k)) 0 ∅ 0 ∗ reached ER (kcell (c, k)) 0)) ∗ minted c)

/-- The ghost state at launch gives every device its round states, positions and tokens. -/
theorem deal : BI.own (ER (initOf cellSet tokSet)) ⊢ (|==> bigSep Finset.univ (G m ρ) : sProp 𝕄) := by
  have hX (Φ : GSem nD τ sig → sProp 𝕄) : bigSep cellSet Φ = bigSep Finset.univ fun c : Dev nD => bigSep Finset.univ fun k => Φ (kcell (c, k)) := by
    unfold cellSet; rw [bigSep_map, bigSep_univ_prod]; rfl
  have hT : bigSep tokSet (fun x => (dutyTok ER x.1 x.2.1 x.2.2 : sProp 𝕄)) = bigSep Finset.univ fun c : Dev nD => minted c := by
    unfold tokSet; rw [bigSep_map, bigSep_univ_prod]
    exact bigSep_congr fun c _ => by unfold minted; rw [bigSep_univ_sum]; rfl
  iintro HX
  imod (Rounds.fund ER (Rd m ρ) cellSet tokSet) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

/-! ## Tokens turned round the mesh -/

/-- The tokens device `c` spends: those of its own sends and copies, and one per step at the cell of the device the step
    addresses. -/
def spends (c : Dev nD) : sProp 𝕄 :=
  iprop((bigSep Finset.univ fun r => dutyTok ER (barCell (fwd c r)) 0 r)
    ∗ (bigSep Finset.univ fun r => dutyTok ER (dCell c (iSend r)) 0 0) ∗ (bigSep Finset.univ fun r => dutyTok ER (dCell (fwd c r) (iRecv r)) 0 0)
    ∗ (bigSep Finset.univ fun r => dutyTok ER (dCell c (iASend r)) 0 0) ∗ (bigSep Finset.univ fun r => dutyTok ER (dCell (fwd c r) (iARecv r)) 0 0)
    ∗ dutyTok ER (dCell c iLocB) 0 0 ∗ dutyTok ER (dCell c iLocG) 0 0)

omit [FloatOps F] in
/-- A sum over all devices and steps may be taken over the devices that the steps lead to. -/
theorem turned (Φ : Dev nD → Fin 31 → sProp 𝕄) : (bigSep Finset.univ fun c => bigSep Finset.univ fun r => Φ c r)
    = bigSep Finset.univ fun c => bigSep Finset.univ fun r => Φ (fwd c r) r := by
  rw [bigSep_univ_comm, bigSep_congr fun r _ => bigSep_univ_equiv (turn r) (fun c => Φ c r), bigSep_univ_comm]
  rfl

/-- The tokens minted at the cells are, all together, those that the devices spend. -/
theorem turn_tokens : (bigSep Finset.univ fun c : Dev nD => (minted c : sProp 𝕄)) ⊢ bigSep Finset.univ fun c : Dev nD => spends c := by
  unfold minted spends
  rw [bigSep_sep', bigSep_congr fun (c : Dev nD) _ => by_family (fun i => (dutyTok ER (dCell c i) 0 0 : sProp 𝕄))]
  simp only [bigSep_sep']
  rw [turned (fun c r => dutyTok ER (barCell c) 0 r), turned (fun c r => dutyTok ER (dCell c (iRecv r)) 0 0),
    turned (fun c r => dutyTok ER (dCell c (iARecv r)) 0 0)]
  iintro ⟨Hb, H1, H2, H3, H4, ⟨H5, H6⟩, -⟩
  isplitl [Hb]; · iexact Hb
  isplitl [H1]; · iexact H1
  isplitl [H2]; · iexact H2
  isplitl [H3]; · iexact H3
  isplitl [H4]; · iexact H4
  isplitl [H5]; · iexact H5
  iexact H6

/-! ## The invariants -/

/-- The kernel's own semaphores, by number. -/
abbrev osem (k : Fin 130) : SemLoc sig := .dma (dsem k)

omit [FloatOps F] in
/-- The barrier semaphore is the one semaphore the kernel doesn't own. -/
theorem unscoped_bar (c : Dev nD) : (unscopedSems0 c : sProp 𝕄) = semVal (barCell c) 0 := by
  unfold unscopedSems0; rw [bigSep_eq_bigSepL_of_eq [SemLoc.reg barS] (by decide) (by decide)]; rfl

/-- A device's cells put under their invariants. -/
theorem guard (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ minted c) := by
  have hv : iprop(semVal (barCell c) 0 ∗ bigSep Finset.univ fun i => semVal (dCell c i) 0) = (bigSep Finset.univ fun k => semVal (kcell (c, k)) 0 : sProp 𝕄) :=
    (by_kind fun k => semVal (kcell (c, k)) 0).symm
  have hi : iprop((bigSep Finset.univ fun k => semVal (kcell (c, k)) 0) ∗ bigSep Finset.univ fun k => roundState ER (Rd m ρ) (kcell (c, k)) 0)
      ⊢ (|={Set.univ}=> bigSep Finset.univ fun k => iprop(∃ κ : ℕ, cellInv ER (Rd m ρ) κ (kcell (c, k))) : sProp 𝕄) := by
    rw [← bigSep_sep']
    exact (bigSep_mono fun k _ => (Rounds.body_intro ER (Rd m ρ) (kcell (c, k))).trans inv_alloc).trans (bigSep_fupd _ _)
  rw [unscoped_bar]
  unfold G Pipeline.ownSems0
  iintro ⟨Hos, Hus, Hst, Hat, Htok⟩
  ihave Hv := (Entails.of_eq hv) $$ [Hos Hus]
  · isplitl [Hus]; · iexact Hus
    iexact Hos
  imod hi $$ [Hv Hst] with Hinv
  · isplitl [Hv]; · iexact Hv
    iexact Hst
  imodintro
  isplitl [Hinv]; · iexact Hinv
  isplitl [Hat]; · iexact Hat
  iexact Htok

variable (K : Dev nD × Option (Fin 130) → ℕ)

/-- The facts about the cells that every device may use, without the levels. -/
def Cells : sProp 𝕄 :=
  iprop((bigSep Finset.univ fun ck : Dev nD × Option (Fin 130) => cellInv ER (Rd m ρ) (K ck) (kcell ck))
    ∗ bigSep Finset.univ fun ck : Dev nD × Option (Fin 130) => reached ER (kcell ck) 0)
/-- These facts can be used again and again. -/
instance Cells_persistent : BI.Persistent (Cells m ρ K) := by unfold Cells; infer_instance

/-- Together with the levels they are the facts that every device keeps. -/
theorem Ctx_intro : iprop(Cells m ρ K ∗ levAts L lv) ⊢ Ctx m ρ K := by
  unfold Cells Ctx
  iintro ⟨⟨H1, H2⟩, H3⟩
  isplitl [H1]; · iexact H1
  isplitl [H2]; · iexact H2
  iexact H3

/-- Device `c`'s positions. -/
def places (c : Dev nD) : sProp 𝕄 := bigSep Finset.univ fun k => atPos ER (kcell (c, k)) 0 ∅ 0
/-- What the launch makes of the deal. -/
def G' (c : Dev nD) : sProp 𝕄 := iprop(∃ K, Cells m ρ K ∗ places c ∗ spends c)

omit [FloatOps F] in
/-- A persistent fact goes to every summand. -/
theorem bigSep_share {I : Type} [DecidableEq I] {S : Finset I} {R : sProp (MT nD τ sig Unit (Elt F) ℕ UU ℕ)} [BI.Persistent R] {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The cells of all devices together: each device gets the facts about all cells, its positions and its tokens. -/
theorem gather :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ minted c) : sProp 𝕄)
      ⊢ bigSep Finset.univ (G' m ρ) := by
  simp only [bigSep_sep']
  rw [← bigSep_univ_prod (fun ck : Dev nD × Option (Fin 130) => iprop(∃ κ : ℕ, cellInv ER (Rd m ρ) κ (kcell ck))),
    ← bigSep_univ_prod (fun ck : Dev nD × Option (Fin 130) => (reached ER (kcell ck) 0 : sProp 𝕄))]
  iintro ⟨HI, ⟨Hat, #HR⟩, Htok⟩
  ihave HK := (BI.bigSep_exists_pi Finset.univ (fun (ck : Dev nD × Option (Fin 130)) (κ : ℕ) => (cellInv ER (Rd m ρ) κ (kcell ck) : sProp 𝕄))) $$ HI
  icases HK with ⟨%K, #HI⟩
  ihave Htok := (turn_tokens (F := F)) $$ Htok
  have hz : iprop((bigSep Finset.univ fun c => places (F := F) c) ∗ bigSep Finset.univ fun c => spends (F := F) c) ⊢ bigSep Finset.univ fun c => iprop(places (F := F) c ∗ spends (F := F) c) :=
    Entails.of_eq (bigSep_sep' _ _ _).symm
  iapply (bigSep_share (R := Cells m ρ K) (Φ := fun c => iprop(places c ∗ spends c)) fun c _ => by
    unfold G'
    iintro H
    iexists K
    iexact H)
  isplitr
  · unfold Cells; isplitl; · iexact HI
    iexact HR
  · iapply hz
    isplitl [Hat]; · unfold places; iexact Hat
    iexact Htok

/-- From the counters at zero and the deal to the state in which every device starts. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => guard m ρ c).trans (bigSep_fupd _ _)).trans (BI.fupd_mono (gather m ρ))

end Cert.Exchange

end
-- ==== Proof.Ends.lean ====
/-
# Ends: what the body starts from and what it leaves

Before the body a device's buffers, positions, tokens and credits are laid out phase by phase.  After it the pieces are
joined back into whole buffers and every semaphore is shown to stand at zero.
-/
module

public import proofs.«01_k».proof.Proof.Deal

@[expose] public section

noncomputable section

namespace Cert.Exchange

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Credits at launch -/

/-- What all devices together owe a cell when each owes `k` per step at the device the step addresses. -/
theorem step_sum (Y : Fin 31 → SemLoc sig) (k : ℕ) (c : Dev nD) (sm : SemLoc sig) :
    (∑ d : Dev nD, (∑ r : Fin 31, (tallyAt ((fwd d r : Thread nD τ), Y r) () k : CellTallies nD τ sig Unit)) ((c : Thread nD τ), sm) ())
      = ∑ r : Fin 31, if Y r = sm then k else 0 := by
  simp only [Finset.sum_apply, Finsupp.finset_sum_apply]
  rw [Finset.sum_comm]
  refine Finset.sum_congr rfl fun r _ => ?_
  refine ((turn r).sum_comp (fun d => (tallyAt ((d : Thread nD τ), Y r) () k : CellTallies nD τ sig Unit) ((c : Thread nD τ), sm) ())).trans ?_
  by_cases h : Y r = sm
  · rw [if_pos h, Finset.sum_eq_single c]
    · rw [tallyAt_apply, h, if_pos ⟨rfl, rfl⟩]
    · intro d _ hd
      rw [tallyAt_apply, if_neg fun e => hd (congrArg (fun g : GSem nD τ sig => g.1.1) e.1).symm]
    · exact fun hc => absurd (Finset.mem_univ c) hc
  · rw [if_neg h]
    exact Finset.sum_eq_zero fun d _ => by rw [tallyAt_apply, if_neg fun e => h (congrArg Prod.snd e.1).symm]

/-- What the cell with semaphore `sm` of each device is owed. -/
def owedTo (sm : SemLoc sig) : ℕ :=
  (∑ r : Fin 31, if SemLoc.dma (dsem (iARecv r)) = sm then NG else 0) + (∑ r : Fin 31, if SemLoc.dma (dsem (iRecv r)) = sm then NB else 0)
    + ∑ r : Fin 31, if SemLoc.reg barS = sm then 1 else 0

/-- What all devices together owe a cell depends on its semaphore only. -/
theorem owed_sum (c : Dev nD) (sm : SemLoc sig) : (∑ d : Dev nD, O₀ d ((c : Thread nD τ), sm) ()) = owedTo sm := by
  unfold O₀ owedARecv owedRecv owedBar owedTo
  rw [todo_zero]
  simp only [Pi.add_apply, Finsupp.add_apply, Finset.sum_add_distrib]
  exact congrArg₂ (· + ·) (congrArg₂ (· + ·) (step_sum (fun r => .dma (dsem (iARecv r))) NG c sm) (step_sum (fun r => .dma (dsem (iRecv r))) NB c sm))
    (step_sum (fun _ => .reg barS) 1 c sm)

/-- At launch a cell's credit is what it is owed. -/
theorem launch_credit (c : Dev nD) (sm : SemLoc sig) :
    tallyOn ((c : Thread nD τ), sm) (launchCredit (Pipeline.owing O₀) 0 ((c : Thread nD τ), sm)) = (tallyAt ((c : Thread nD τ), sm) () (owedTo sm) : CellTallies nD τ sig Unit) := by
  unfold tallyAt; refine congrArg _ (Finsupp.ext fun u => ?_); cases u
  rw [Pipeline.launchCredit_owing, Finsupp.single_eq_same, owed_sum]

/-- Different numbers are different DMA semaphores. -/
theorem dma_inj {i j : Fin 130} (h : (SemLoc.dma (dsem i) : SemLoc sig) = .dma (dsem j)) : i = j := dsem_injective (by injection h)

/-- A barrier is owed 31 units, -/
theorem owedTo_bar : owedTo (.reg barS) = 31 := by
  unfold owedTo
  simp
/-- the semaphore of a block's arrival is owed one block, -/
theorem owedTo_recv (r : Fin 31) : owedTo (.dma (dsem (iRecv r))) = NB := by
  have h1 : ∀ s : Fin 31, ¬ (SemLoc.dma (dsem (iARecv s)) : SemLoc sig) = .dma (dsem (iRecv r)) := fun s h => by
    have := congrArg Fin.val (dma_inj h); simp only [iARecv, iRecv] at this; omega
  have h2 : ∀ s : Fin 31, (SemLoc.dma (dsem (iRecv s)) : SemLoc sig) = .dma (dsem (iRecv r)) ↔ s = r := fun s =>
    ⟨fun h => Fin.ext (by have := congrArg Fin.val (dma_inj h); simp only [iRecv] at this; omega), fun h => h ▸ rfl⟩
  unfold owedTo
  simp only [h1, h2, if_false, Finset.sum_const_zero, Finset.sum_ite_eq', Finset.mem_univ, if_true, reduceCtorEq, Nat.zero_add, Nat.add_zero]
/-- and that of a row's arrival one row. -/
theorem owedTo_arecv (r : Fin 31) : owedTo (.dma (dsem (iARecv r))) = NG := by
  have h1 : ∀ s : Fin 31, ¬ (SemLoc.dma (dsem (iRecv s)) : SemLoc sig) = .dma (dsem (iARecv r)) := fun s h => by
    have := congrArg Fin.val (dma_inj h); simp only [iARecv, iRecv] at this; omega
  have h2 : ∀ s : Fin 31, (SemLoc.dma (dsem (iARecv s)) : SemLoc sig) = .dma (dsem (iARecv r)) ↔ s = r := fun s =>
    ⟨fun h => Fin.ext (by have := congrArg Fin.val (dma_inj h); simp only [iARecv] at this; omega), fun h => h ▸ rfl⟩
  unfold owedTo
  simp only [h1, h2, if_false, Finset.sum_const_zero, Finset.sum_ite_eq', Finset.mem_univ, if_true, reduceCtorEq, Nat.zero_add, Nat.add_zero]

/-- The semaphores a device is credited for at launch. -/
def credited : Fin 1 ⊕ Fin 31 ⊕ Fin 31 → SemLoc sig :=
  Sum.elim (fun _ => .reg barS) (Sum.elim (fun r => .dma (dsem (iRecv r))) fun r => .dma (dsem (iARecv r)))
/-- These are all different. -/
theorem credited_injective : Function.Injective credited := by
  intro a b h
  rcases a with a | a | a <;> rcases b with b | b | b <;> simp only [credited, Sum.elim_inl, Sum.elim_inr, reduceCtorEq] at h
  · rw [Subsingleton.elim a b]
  all_goals
    have h' := congrArg Fin.val (dma_inj h)
    simp only [iRecv, iARecv] at h'
    first
      | (exfalso; omega)
      | (rw [show a = b from Fin.ext (by omega)])

/-- The credits device `c` waits with. -/
def credits (c : Dev nD) : sProp 𝕄 :=
  iprop(cred (tallyAt (barCell c) () 31) ∗ (bigSep Finset.univ fun r => cred (tallyAt (dCell c (iRecv r)) () NB))
    ∗ bigSep Finset.univ fun r => cred (tallyAt (dCell c (iARecv r)) () NG))

omit [FloatOps F] in
/-- The launch's credit holds the credits that a device waits with. -/
theorem credits_intro (c : Dev nD) : (Pipeline.launchCred O₀ c : sProp 𝕄) ⊢ credits c := by
  have e : (bigSep (Finset.univ.map ⟨credited, credited_injective⟩) fun sm => (cred (tallyAt ((c : Thread nD τ), sm) () (owedTo sm)) : sProp 𝕄)) = credits c := by
    have e1 : (bigSep Finset.univ fun _ : Fin 1 => (cred (tallyAt (barCell c) () 31) : sProp 𝕄)) = cred (tallyAt (barCell c) () 31) :=
      bigSep_univ_eq_bigSepL [0] (by decide) (by decide) _
    rw [bigSep_map, bigSep_univ_sum, bigSep_univ_sum]
    unfold credits
    rw [← e1]
    refine congrArg₂ _ (bigSep_congr fun _ _ => ?_) (congrArg₂ _ (bigSep_congr fun r _ => ?_) (bigSep_congr fun r _ => ?_))
    · exact congrArg (fun k => (cred (tallyAt (barCell c) () k) : sProp 𝕄)) owedTo_bar
    · exact congrArg (fun k => (cred (tallyAt (dCell c (iRecv r)) () k) : sProp 𝕄)) (owedTo_recv r)
    · exact congrArg (fun k => (cred (tallyAt (dCell c (iARecv r)) () k) : sProp 𝕄)) (owedTo_arecv r)
  rw [← e]
  unfold Pipeline.launchCred
  rw [bigSep_congr fun (sm : SemLoc sig) _ => congrArg (fun t => (cred t : sProp 𝕄)) (launch_credit c sm)]
  exact bigSep_subset (Finset.subset_univ _)

/-! ## Before the body -/

/-- What device `c` starts with besides its buffers. -/
def start (c : Dev nD) : sProp 𝕄 := iprop(∃ K, Ctx m ρ K ∗ places c ∗ spends c ∗ credits c)

/-- What the launch gives a device is what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G'
  iintro ⟨-, Hlev, Hcr, -, ⟨%K, HC, Hp, Hs⟩⟩
  ihave Hc := (credits_intro (F := F) c) $$ Hcr
  imodintro
  isplitl
  · iexists K
    isplitl [HC Hlev]
    · iapply (Ctx_intro m ρ K)
      isplitl [HC]; · iexact HC
      iexact Hlev
    isplitl [Hp]; · iexact Hp
    isplitl [Hs]; · iexact Hs
    iexact Hc
  · iempintro

/-- Device `c`'s position on its barrier and on its DMA semaphores, family by family. -/
theorem places_eq (c : Dev nD) : (places c : sProp 𝕄) = iprop(atPos ER (barCell c) 0 ∅ 0 ∗ posns iSend c ∗ posns iRecv c ∗ posns iASend c ∗ posns iARecv c
    ∗ (atPos ER (dCell c iLocB) 0 ∅ 0 ∗ atPos ER (dCell c iLocG) 0 ∅ 0) ∗ bigSep Finset.univ fun k => atPos ER (dCell c (idle k)) 0 ∅ 0) := by
  unfold places posns
  rw [by_kind, by_family]

/-- The positions on the semaphores no step uses. -/
def rest (c : Dev nD) : sProp 𝕄 := bigSep Finset.univ fun k => atPos ER (dCell c (idle k)) 0 ∅ 0

omit [FloatOps F] in
/-- The slots and table rows reserved on device `c`, each for the device whose unit is signalled at that step. -/
theorem reserve (c : Dev nD) (f g) : iprop(bufPts c cc0_scratch0 f ∗ bufPts c cc0_scratch2 g)
    ⊢ iprop((slotPts c c f ∗ growPts c c g) ∗ bigSep Finset.univ fun r => barPay (F := F) (fwd c r) r) := by
  have e (r : Fin 31) : (barPay (F := F) (fwd c r) r : sProp 𝕄) = iprop((∃ f, slotPts c (fwd c r) f) ∗ ∃ f, growPts c (fwd c r) f) :=
    congrArg (fun d => iprop((∃ f, slotPts d (fwd c r) f) ∗ ∃ f, growPts d (fwd c r) f)) (bwd_fwd c r)
  rw [bigSep_congr fun r _ => e r, bigSep_sep', slot_pieces, grow_pieces, rev_fwd c (fun s => slotPts c s f), rev_fwd c (fun s => growPts c s g)]
  have i1 (r : Fin 31) : (slotPts c (fwd c r) f : sProp 𝕄) ⊢ iprop(∃ f, slotPts c (fwd c r) f) := by iintro H; iexists f; iexact H
  have i2 (r : Fin 31) : (growPts c (fwd c r) g : sProp 𝕄) ⊢ iprop(∃ g, growPts c (fwd c r) g) := by iintro H; iexists g; iexact H
  have h1 : (bigSep Finset.univ fun r => slotPts c (fwd c r) f : sProp 𝕄) ⊢ bigSep Finset.univ fun r => iprop(∃ f, slotPts c (fwd c r) f) :=
    bigSep_mono fun r _ => i1 r
  have h2 : (bigSep Finset.univ fun r => growPts c (fwd c r) g : sProp 𝕄) ⊢ bigSep Finset.univ fun r => iprop(∃ g, growPts c (fwd c r) g) :=
    bigSep_mono fun r _ => i2 r
  iintro ⟨⟨Hs, Hss⟩, Hg, Hgs⟩
  isplitl [Hs Hg]
  · isplitl [Hs]; · iexact Hs
    iexact Hg
  isplitl [Hss]
  · iapply h1; iexact Hss
  · iapply h2; iexact Hgs

/-- Everything laid out for the first step. -/
theorem lay_out (c : Dev nD) (K : Dev nD × Option (Fin 130) → ℕ) (fA fM fO f g) :
    iprop((Ctx m ρ K ∗ places c ∗ spends c ∗ credits c) ∗ (bufPts c cc0_scratch0 f ∗ bufPts c cc0_scratch1 fA ∗ bufPts c cc0_scratch2 g ∗ bufPts c cc0_scratch3 fM)
        ∗ Owe c (O₀ c) ∗ bufPts c cc0_stg0_0 (xstg m ρ c) ∗ bufPts c cc0_stg1_0 (wstg m ρ c) ∗ bufPts c cc0_stg2_0 fO)
      ⊢ iprop(Ctx m ρ K ∗ Sig c 0 ∗ (atPos ER (barCell c) 0 ∅ 0 ∗ cred (tallyAt (barCell c) () 31)) ∗ Start m ρ c fA fM fO (rest c)) := by
  unfold spends credits Sig Start sndSrc asndTok rest
  rw [places_eq, todo_zero, bigSep_sep', bigSep_sep', bigSep_sep', bigSep_sep', x_pieces]
  iintro ⟨⟨HC, ⟨HpB, Hp1, Hp2, Hp3, Hp4, ⟨Hp5, Hp6⟩, Hp7⟩, ⟨HtB, Ht1, Ht2, Ht3, Ht4, Ht5, Ht6⟩, HcB, Hc2, Hc4⟩, ⟨H0, H1, H2, H3⟩, HO, ⟨Hx, Hxs⟩, Hw, Ho⟩
  ihave H02 := (reserve c f g) $$ [H0 H2]
  · isplitl [H0]; · iexact H0
    iexact H2
  icases H02 with ⟨⟨Hs, Hg⟩, Hbp⟩
  isplitl [HC]; · iexact HC
  isplitl [HtB Hbp HO]
  · isplitr [HO]
    · isplitl [HtB]; · iexact HtB
      iexact Hbp
    · unfold O₀; iexact HO
  isplitl [HpB HcB]
  · isplitl [HpB]; · iexact HpB
    iexact HcB
  isplitl [Hxs Ht1 Ht2]
  · isplitl [Hxs]; · iexact Hxs
    isplitl [Ht1]; · iexact Ht1
    iexact Ht2
  isplitl [Hp1]; · iexact Hp1
  isplitl [Hx Hs Ht5 Hp5]
  · isplitl [Hx]; · iexact Hx
    isplitl [Hs]; · iexists f; iexact Hs
    isplitl [Ht5]; · iexact Ht5
    iexact Hp5
  isplitl [Hp2 Hc2]
  · iapply (wts_zero m ρ c iRecv NB fun r => by rw [use_recv]; rfl)
    isplitl [Hp2]; · iexact Hp2
    iexact Hc2
  isplitl [Hw]; · iexact Hw
  isplitl [H1]; · iexact H1
  isplitl [H3]; · iexact H3
  isplitl [Hg Ht6 Hp6]
  · isplitl [Hg]; · iexists g; iexact Hg
    isplitl [Ht6]; · iexact Ht6
    iexact Hp6
  isplitl [Ht3 Ht4]
  · isplitl [Ht3]; · iexact Ht3
    iexact Ht4
  isplitl [Hp3]; · iexact Hp3
  isplitl [Hp4 Hc4]
  · iapply (wts_zero m ρ c iARecv NG fun r => by rw [use_arecv]; rfl)
    isplitl [Hp4]; · iexact Hp4
    iexact Hc4
  isplitl [Ho]; · iexact Ho
  iexact Hp7

/-! ## After the body -/

variable (K : Dev nD × Option (Fin 130) → ℕ)

/-- A semaphore past its last round stands at zero. -/
theorem close_past (c : Dev nD) (k : Option (Fin 130)) : iprop(Ctx m ρ K ∗ atPos ER (kcell (c, k)) 1 ∅ 0) ⊢ |={Set.univ}=> semVal (kcell (c, k)) 0 :=
  (sep_mono_left (Ctx_inv m ρ K (c, k))).trans
    (cell_close ER (Rd m ρ) (κ := K (c, k)) (Set.mem_univ _) (fun h => h) (duties_later m ρ (kcell (c, k))))
/-- So does one without rounds. -/
theorem close_idle (c : Dev nD) (k : Fin 4) : iprop(Ctx m ρ K ∗ atPos ER (dCell c (idle k)) 0 ∅ 0) ⊢ |={Set.univ}=> semVal (dCell c (idle k)) 0 :=
  (sep_mono_left (Ctx_inv m ρ K (c, some (idle k)))).trans
    (cell_close ER (Rd m ρ) (κ := K (c, some (idle k))) (Set.mem_univ _) (fun h => h) (fun r _ => duties_unused m ρ c (idle k) (use_idle k) r))

/-- The semaphores of a family past its waits stand at zero, -/
theorem close_family (c : Dev nD) (ix : Fin 31 → Fin 130) : iprop(Ctx m ρ K ∗ past ix c) ⊢ |={Set.univ}=> bigSep Finset.univ fun r => semVal (dCell c (ix r)) 0 :=
  (bigSep_share fun r _ => close_past m ρ K c (some (ix r))).trans (bigSep_fupd _ _)
/-- and so do those that no step uses. -/
theorem close_rest (c : Dev nD) : iprop(Ctx m ρ K ∗ rest c) ⊢ |={Set.univ}=> bigSep Finset.univ fun k => semVal (dCell c (idle k)) 0 :=
  (bigSep_share fun k _ => close_idle m ρ K c k).trans (bigSep_fupd _ _)

/-- What the body leaves: its semaphores at zero, its scratch buffers, `x` and `w` as staged and the result. -/
def Done (c : Dev nD) : sProp 𝕄 :=
  iprop((unscopedSems0 c ∗ Pipeline.ownSems0 osem c
      ∗ (∃ f, bufPts c cc0_scratch0 f) ∗ (∃ f, bufPts c cc0_scratch1 f) ∗ (∃ f, bufPts c cc0_scratch2 f) ∗ ∃ f, bufPts c cc0_scratch3 f)
    ∗ Owe c 0 ∗ bufPts c cc0_stg0_0 (xstg m ρ c) ∗ bufPts c cc0_stg1_0 (wstg m ρ c) ∗ bufPts c cc0_stg2_0 (outAt m ρ c))

/-- After the last wait the pieces are joined and every semaphore is closed. -/
theorem wind_up (c : Dev nD) : iprop(Ctx m ρ K ∗ Fin' m ρ c 31 31 ∗ Left m ρ c ∗ rest c) ⊢ |={Set.univ}=> Done m ρ c := by
  unfold Fin' Left
  iintro ⟨#HC, ⟨HS, HA, HO⟩, ⟨HpB, ⟨HpLB, Hx⟩, ⟨HW, Hs, Hw, H1⟩, ⟨HpLG, Hm⟩, Hp4, H2, Ho⟩, HR⟩
  ihave HS := (fired_all m ρ c iSend .send use_send) $$ HS
  icases HS with ⟨Hp1, Hxs⟩
  ihave HA := (fired_all m ρ c iASend .asend use_asend) $$ HA
  icases HA with ⟨Hp3, Hms⟩
  ihave HW := (fired_all m ρ c iRecv .recv use_recv) $$ HW
  icases HW with ⟨Hp2, Hss⟩
  imod (close_past m ρ K c none) $$ [HpB] with HvB
  · isplitr; · iexact HC
    iexact HpB
  imod (close_past m ρ K c (some iLocB)) $$ [HpLB] with HvLB
  · isplitr; · iexact HC
    iexact HpLB
  imod (close_past m ρ K c (some iLocG)) $$ [HpLG] with HvLG
  · isplitr; · iexact HC
    iexact HpLG
  imod (close_family m ρ K c iSend) $$ [Hp1] with Hv1
  · isplitr; · iexact HC
    iexact Hp1
  imod (close_family m ρ K c iRecv) $$ [Hp2] with Hv2
  · isplitr; · iexact HC
    iexact Hp2
  imod (close_family m ρ K c iASend) $$ [Hp3] with Hv3
  · isplitr; · iexact HC
    iexact Hp3
  imod (close_family m ρ K c iARecv) $$ [Hp4] with Hv4
  · isplitr; · iexact HC
    iexact Hp4
  imod (close_rest m ρ K c) $$ [HR] with HvR
  · isplitr; · iexact HC
    iexact HR
  imodintro
  unfold Done Pipeline.ownSems0
  rw [unscoped_bar, by_family, x_pieces]
  isplitr [HO Hx Hxs Hw Ho]
  · isplitl [HvB]; · iexact HvB
    isplitl [HvLB HvLG Hv1 Hv2 Hv3 Hv4 HvR]
    · isplitl [Hv1]; · iexact Hv1
      isplitl [Hv2]; · iexact Hv2
      isplitl [Hv3]; · iexact Hv3
      isplitl [Hv4]; · iexact Hv4
      isplitl [HvLB HvLG]
      · isplitl [HvLB]; · iexact HvLB
        iexact HvLG
      iexact HvR
    isplitl [Hs Hss]
    · iexists (blocks m ρ c)
      rw [slot_pieces]
      isplitl [Hs]; · iexact Hs
      iexact Hss
    isplitl [H1]; · iexists _; iexact H1
    isplitl [H2]; · iexists _; iexact H2
    iexists (amaxOf m ρ c)
    iapply (m_pieces m ρ c).2
    isplitl [Hm]; · iexact Hm
    iexact Hms
  isplitl [HO]; · iexact HO
  isplitl [Hx Hxs]
  · isplitl [Hx]; · iexact Hx
    iexact Hxs
  isplitl [Hw]; · iexact Hw
  iexact Ho

end Cert.Exchange

end
-- ==== Proof.Body.lean ====
/-
# Body: the whole body, once, at a symbolic device

The parts of the body are run through in order, each operation by the lemma of its phase.  The offsets that the program
computes are turned into pieces first.
-/
module

public import proofs.«01_k».proof.Proof.Phases
public import proofs.«01_k».proof.Proof.Gen.KernelIdeal.Skeleton

@[expose] public section

noncomputable section

namespace Cert.Exchange

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Option (Fin 130) → ℕ)
variable {α : Type} {Q : α → sProp (MT nD τ sig Unit (Elt F) ℕ UU ℕ)} {P P' R : sProp (MT nD τ sig Unit (Elt F) ℕ UU ℕ)} (c : Dev nD)

/-! ## The offsets the program computes -/

/-- The offset of the row block that step `n` sends. -/
theorem off2_at (n : ℕ) (hn : n < 31) {b : BitVec 32} (hb : b = BitVec.ofNat 32 (1 + n)) : k0_off2 c b = ![128 * (fwd c ⟨n, hn⟩).val, 0] := by
  subst hb
  refine (k0_off2_eq c ⟨n, hn⟩).trans ?_
  exact congrArg (fun k => ![128 * k, 0]) (show (c.val + n + 1) % 32 = (fwd c ⟨n, hn⟩).val from rfl)
/-- The offset of the slot that step `n` receives into. -/
theorem off7_at (n : ℕ) (hn : n < 31) {b : BitVec 32} (hb : b = BitVec.ofNat 32 (1 + n)) : k0_off7 c b = ![((c.val + 31) - n) % 32, 0, 0] := by
  subst hb
  exact k0_off7_eq c ⟨n, hn⟩
/-- The offset of the rows of `w` that go with the block received in step `n`. -/
theorem off8_at (n : ℕ) (hn : n < 31) {b : BitVec 32} (hb : b = BitVec.ofNat 32 (1 + n)) : k0_off8 c b = ![128 * (src c n).val, 0] := by
  subst hb
  exact k0_off8_eq c ⟨n, hn⟩

/-- Loading the rows of `w` that go with the block received last. -/
theorem step_ldw_src {n : ℕ} {hn : n < 31} {f : (cc0_scratch1 : Ref sig .tc).ty.Contents (Elt F)} {b : BitVec 32}
    {hb : ∀ a, k0_off8 c b a + S128x2048.size a ≤ S4096x2048.size a} {hl : wM.view.LoadsAt (Rect.unit (s := S4096x2048) (k0_off8 c b) S128x2048.size hb).toLoadRect}
    {k : Vec F S128x2048 .f32 → Prog (TpuEff nD τ sig (Elt F) Λ₀ .tc) α} (ho : b = BitVec.ofNat 32 (1 + n))
    (h : iprop(Ctx m ρ K ∗ Acc m ρ c (n + 1) f ∗ R) ⊢ WP c (k (wVal m ρ c (src c n))) Q) :
    iprop(Ctx m ρ K ∗ Acc m ρ c (n + 1) f ∗ R) ⊢ WP c (.op (.load wM (Rect.unit (s := S4096x2048) (k0_off8 c b) S128x2048.size hb).toLoadRect hl) k) Q :=
  step_ldw m ρ K c (off8_at c n hn ho) h

/-- Going on after a program of which only the device it names is known. -/
theorem step_known {β : Type} {p : Prog (TpuEff nD τ sig (Elt F) Λ₀ .tc) β} {k : β → Prog (TpuEff nD τ sig (Elt F) Λ₀ .tc) α} {ok : β → Prop}
    (h₁ : P ⊢ WP c p fun x => iprop(⌜ok x⌝ ∗ P')) (h₂ : ∀ x, ok x → P' ⊢ WP c (k x) Q) : P ⊢ WP c (p >>= k) Q := by
  unfold WP; rw [wp_bind]
  refine h₁.trans (wp_mono _ _ _ fun x => ?_)
  iintro ⟨%hx, H⟩
  iapply (h₂ x hx); iexact H

/-- Storing the accumulator's next value. -/
theorem step_next {n : ℕ} {w : (cc0_scratch1 : Ref sig .tc).ty.Contents (Elt F)} {hb : ∀ a, (![0, 0] : Fin 2 → ℕ) a + S128x2048.size a ≤ S128x2048.size a}
    {hx : (aM.access (Rect.unit (s := S128x2048) ![0, 0] S128x2048.size hb)).Stores Finset.univ} {hm : _}
    {k : PUnit → Prog (TpuEff nD τ sig (Elt F) Λ₀ .tc) α}
    (hw : w = accAt m ρ c (n + 1)) (h : iprop(Ctx m ρ K ∗ Acc m ρ c (n + 1) (accAt m ρ c (n + 1)) ∗ R) ⊢ WP c (k ⟨⟩) Q) :
    iprop(Ctx m ρ K ∗ Acc m ρ c (n + 1) (accAt m ρ c n) ∗ R) ⊢ WP c (.op (.store aM (Rect.unit (s := S128x2048) ![0, 0] S128x2048.size hb) w Finset.univ hx hm) k) Q :=
  step_stacc m ρ K c hw h

/-! ## Loads and stores of the other whole buffers -/

variable {C : sProp (MT nD τ sig Unit (Elt F) ℕ UU ℕ)}

/-- Loading the row of maxima. -/
theorem step_ldrow {f : (cc0_scratch3 : Ref sig .tc).ty.Contents (Elt F)} {hb : ∀ a, (![0, 0] : Fin 2 → ℕ) a + S1x128.size a ≤ S1x128.size a}
    {hl : mM.view.LoadsAt (Rect.unit (s := S1x128) ![0, 0] S1x128.size hb).toLoadRect}
    {k : Vec F S1x128 .f32 → Prog (TpuEff nD τ sig (Elt F) Λ₀ .tc) α}
    (h : iprop(C ∗ bufPts c cc0_scratch3 (f) ∗ R) ⊢ WP c (k (f)) Q) :
    iprop(C ∗ bufPts c cc0_scratch3 (f) ∗ R) ⊢ WP c (.op (.load mM (Rect.unit (s := S1x128) ![0, 0] S1x128.size hb).toLoadRect hl) k) Q :=
  step_ldbuf (b := mM) c (Memref.readAt_unit_zero (Elt F) (cc0_scratch3 : Ref sig .tc) hz2 hb _) h

/-- Loading the table. -/
theorem step_ldtable {hb : ∀ a, (![0, 0] : Fin 2 → ℕ) a + S32x128.size a ≤ S32x128.size a}
    {hl : gM.view.LoadsAt (Rect.unit (s := S32x128) ![0, 0] S32x128.size hb).toLoadRect}
    {k : Vec F S32x128 .f32 → Prog (TpuEff nD τ sig (Elt F) Λ₀ .tc) α}
    (h : iprop(C ∗ bufPts c cc0_scratch2 (table m ρ) ∗ R) ⊢ WP c (k (table m ρ)) Q) :
    iprop(C ∗ bufPts c cc0_scratch2 (table m ρ) ∗ R) ⊢ WP c (.op (.load gM (Rect.unit (s := S32x128) ![0, 0] S32x128.size hb).toLoadRect hl) k) Q :=
  step_ldbuf (b := gM) c (Memref.readAt_unit_zero (Elt F) (cc0_scratch2 : Ref sig .tc) hz2 hb _) h

/-- Loading the result buffer. -/
theorem step_ldout {f : (cc0_stg2_0 : Ref sig .tc).ty.Contents (Elt F)} {hb : ∀ a, (![0, 0] : Fin 2 → ℕ) a + S128x2048.size a ≤ S128x2048.size a}
    {hl : oM.view.LoadsAt (Rect.unit (s := S128x2048) ![0, 0] S128x2048.size hb).toLoadRect}
    {k : Vec F S128x2048 .f32 → Prog (TpuEff nD τ sig (Elt F) Λ₀ .tc) α}
    (h : iprop(C ∗ bufPts c cc0_stg2_0 (f) ∗ R) ⊢ WP c (k (f)) Q) :
    iprop(C ∗ bufPts c cc0_stg2_0 (f) ∗ R) ⊢ WP c (.op (.load oM (Rect.unit (s := S128x2048) ![0, 0] S128x2048.size hb).toLoadRect hl) k) Q :=
  step_ldbuf (b := oM) c (Memref.readAt_unit_zero (Elt F) (cc0_stg2_0 : Ref sig .tc) hz2 hb _) h

/-- Storing the row of maxima. -/
theorem step_stmax {f g w : (cc0_scratch3 : Ref sig .tc).ty.Contents (Elt F)} {hb : ∀ a, (![0, 0] : Fin 2 → ℕ) a + S1x128.size a ≤ S1x128.size a}
    {hx : (mM.access (Rect.unit (s := S1x128) ![0, 0] S1x128.size hb)).Stores Finset.univ} {hm : _}
    {k : PUnit → Prog (TpuEff nD τ sig (Elt F) Λ₀ .tc) α}
    (hw : w = g) (h : iprop(C ∗ bufPts c cc0_scratch3 (g) ∗ R) ⊢ WP c (k ⟨⟩) Q) :
    iprop(C ∗ bufPts c cc0_scratch3 f ∗ R) ⊢ WP c (.op (.store mM (Rect.unit (s := S1x128) ![0, 0] S1x128.size hb) w Finset.univ hx hm) k) Q := by
  subst hw
  refine step_store c (S := Finset.univ) (f := f) (g := w) ?_ (Finset.subset_univ _) (Memref.write_access_unit_zero_univ (Elt F) (cc0_scratch3 : Ref sig .tc) hz2 hb f w) h
  iintro ⟨HC, H, HR⟩
  isplitl [H]; · iexact H
  iintro H
  isplitl [HC]; · iexact HC
  isplitl [H]; · iexact H
  iexact HR

/-- Storing the result. -/
theorem step_stout {f g w : (cc0_stg2_0 : Ref sig .tc).ty.Contents (Elt F)} {hb : ∀ a, (![0, 0] : Fin 2 → ℕ) a + S128x2048.size a ≤ S128x2048.size a}
    {hx : (oM.access (Rect.unit (s := S128x2048) ![0, 0] S128x2048.size hb)).Stores Finset.univ} {hm : _}
    {k : PUnit → Prog (TpuEff nD τ sig (Elt F) Λ₀ .tc) α}
    (hw : w = g) (h : iprop(C ∗ bufPts c cc0_stg2_0 (g) ∗ R) ⊢ WP c (k ⟨⟩) Q) :
    iprop(C ∗ bufPts c cc0_stg2_0 f ∗ R) ⊢ WP c (.op (.store oM (Rect.unit (s := S128x2048) ![0, 0] S128x2048.size hb) w Finset.univ hx hm) k) Q := by
  subst hw
  refine step_store c (S := Finset.univ) (f := f) (g := w) ?_ (Finset.subset_univ _) (Memref.write_access_unit_zero_univ (Elt F) (cc0_stg2_0 : Ref sig .tc) hz2 hb f w) h
  iintro ⟨HC, H, HR⟩
  isplitl [H]; · iexact H
  iintro H
  isplitl [HC]; · iexact HC
  isplitl [H]; · iexact H
  iexact HR

/-! ## The parts up to the accumulation -/

set_option maxHeartbeats 2000000 in
/-- From the first signal to the first of the last waits: the device ends with its result stored and one send waited for. -/
theorem head_ok {fA fM fO} {T : sProp (MT nD τ sig Unit (Elt F) ℕ UU ℕ)} :
    iprop(Ctx m ρ K ∗ Sig c 0 ∗ (atPos ER (barCell c) 0 ∅ 0 ∗ cred (tallyAt (barCell c) () 31)) ∗ Start m ρ c fA fM fO T)
      ⊢ WP c (k0_part74 (F := F) xM (Memref.isWhole_whole _) wM (Memref.isWhole_whole _) oM (Memref.isWhole_whole _) bM (Memref.isWhole_whole _) aM (Memref.isWhole_whole _) gM (Memref.isWhole_whole _) mM (Memref.isWhole_whole _) cc0_scratch4 cc0_scratch5 cc0_scratch6 cc0_scratch7 cc0_scratch8)
        fun x => iprop(⌜x.1 = c⌝ ∗ Ctx m ρ K ∗ Fin' m ρ c 1 0 ∗ Left m ρ c ∗ T) := by
  unfold Start
  rw [k0_part74_eq_skeleton]
  unfold k0_part74_skel
  refine step_seq (F := F) c (P' := ?_) (v := ?_) ?_ ?_
  rotate_left 2
  · simp only [k0_part1_eq_skeleton, k0_part1_skel, Prog.lift, semSignalWord, semWaitWord, Prog.bind_op, Prog.bind_ret, Prog.pure_eq_ret]
    refine step_dev c ?_
    refine step_sig m ρ K c (n := 0) (hn := by decide) (by simp only [k0_dev1_eq]) (by rfl) ?_
    iterate 4 refine step_sig m ρ K c (hn := by decide) (by simp only [k0_dev2_eq, k0_dev3_eq, k0_dev4_eq, k0_dev5_eq]) (by rfl) ?_
    exact step_ret (F := F) c
  try dsimp only
  iterate 4
    refine step_seq (F := F) c (P' := ?_) (v := ?_) ?_ ?_
    rotate_left 2
    · simp only [k0_part2_eq_skeleton, k0_part2_skel, k0_part3_eq_skeleton, k0_part3_skel, k0_part4_eq_skeleton, k0_part4_skel, k0_part5_eq_skeleton, k0_part5_skel, Prog.lift, semSignalWord, semWaitWord, Prog.bind_op, Prog.bind_ret, Prog.pure_eq_ret]
      iterate 6 refine step_sig m ρ K c (hn := by decide) (by simp only [k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq]) (by rfl) ?_
      exact step_ret (F := F) c
    try dsimp only
  refine step_seq (F := F) c (P' := ?_) (v := ?_) ?_ ?_
  rotate_left 2
  · simp only [k0_part6_eq_skeleton, k0_part6_skel, Prog.lift, semSignalWord, semWaitWord, Prog.bind_op, Prog.bind_ret, Prog.pure_eq_ret]
    iterate 2 refine step_sig m ρ K c (hn := by decide) (by simp only [k0_dev30_eq, k0_dev31_eq]) (by rfl) ?_
    refine step_barrier m ρ K c (by rfl) ?_
    refine (turn_bar m ρ c).trans ?_
    refine step_snd m ρ K c (n := 0) (hn := by decide) (by simp only [k0_dev32_eq]) (by rfl) (by rfl) (by exact xrow_at (off2_at c _ _ (by rfl)) _) (by exact slot_at (k0_off1_eq c) _) ?_
    exact step_ret (F := F) c
  try dsimp only
  iterate 3
    refine step_seq (F := F) c (P' := ?_) (v := ?_) ?_ ?_
    rotate_left 2
    · simp only [k0_part7_eq_skeleton, k0_part7_skel, k0_part10_eq_skeleton, k0_part10_skel, k0_part13_eq_skeleton, k0_part13_skel, Prog.lift, Prog.bind_op, Prog.bind_ret, Prog.pure_eq_ret]
      iterate 3 refine step_snd m ρ K c (hn := by decide) (by simp only [k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq]) (by rfl) (by rfl) (by exact xrow_at (off2_at c _ _ (by rfl)) _) (by exact slot_at (k0_off1_eq c) _) ?_
      exact step_ret (F := F) c
    try dsimp only
    refine step_seq (F := F) c (P' := ?_) (v := ?_) ?_ ?_
    rotate_left 2
    · simp only [k0_part8_eq_skeleton, k0_part8_skel, k0_part11_eq_skeleton, k0_part11_skel, k0_part14_eq_skeleton, k0_part14_skel, Prog.lift, Prog.bind_op, Prog.bind_ret, Prog.pure_eq_ret]
      iterate 2 refine step_snd m ρ K c (hn := by decide) (by simp only [k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq]) (by rfl) (by rfl) (by exact xrow_at (off2_at c _ _ (by rfl)) _) (by exact slot_at (k0_off1_eq c) _) ?_
      exact step_ret (F := F) c
    try dsimp only
    refine step_seq (F := F) c (P' := ?_) (v := ?_) ?_ ?_
    rotate_left 2
    · simp only [k0_part9_eq_skeleton, k0_part9_skel, k0_part12_eq_skeleton, k0_part12_skel, k0_part15_eq_skeleton, k0_part15_skel, Prog.lift, Prog.bind_op, Prog.bind_ret, Prog.pure_eq_ret]
      iterate 3 refine step_snd m ρ K c (hn := by decide) (by simp only [k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq]) (by rfl) (by rfl) (by exact xrow_at (off2_at c _ _ (by rfl)) _) (by exact slot_at (k0_off1_eq c) _) ?_
      exact step_ret (F := F) c
    try dsimp only
  refine step_seq (F := F) c (P' := ?_) (v := ?_) ?_ ?_
  rotate_left 2
  · simp only [k0_part16_eq_skeleton, k0_part16_skel, Prog.lift, Prog.bind_op, Prog.bind_ret, Prog.pure_eq_ret]
    iterate 2 refine step_snd m ρ K c (hn := by decide) (by simp only [k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq]) (by rfl) (by rfl) (by exact xrow_at (off2_at c _ _ (by rfl)) _) (by exact slot_at (k0_off1_eq c) _) ?_
    exact step_ret (F := F) c
  try dsimp only
  refine step_seq (F := F) c (P' := ?_) (v := ?_) ?_ ?_
  rotate_left 2
  · simp only [k0_part17_eq_skeleton, k0_part17_skel, Prog.lift, Prog.bind_op, Prog.bind_ret, Prog.pure_eq_ret]
    iterate 3 refine step_snd m ρ K c (hn := by decide) (by simp only [k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq]) (by rfl) (by rfl) (by exact xrow_at (off2_at c _ _ (by rfl)) _) (by exact slot_at (k0_off1_eq c) _) ?_
    exact step_ret (F := F) c
  try dsimp only
  refine step_seq (F := F) c (P' := ?_) (v := ?_) ?_ ?_
  rotate_left 2
  · simp only [k0_part18_eq_skeleton, k0_part18_skel, Prog.lift, Prog.bind_op, Prog.bind_ret, Prog.pure_eq_ret]
    refine step_snd m ρ K c (hn := by decide) (by simp only [k0_dev62_eq]) (by rfl) (by rfl) (by exact xrow_at (off2_at c _ _ (by rfl)) _) (by exact slot_at (k0_off1_eq c) _) ?_
    refine (turn_sent m ρ c).trans ?_
    refine step_copyB m ρ K c (by rfl) (by exact xrow_at (k0_off3_eq c) _) (by exact slot_at (k0_off1_eq c) _) ?_
    refine turn_join.trans ?_
    refine step_wait1 m ρ K c (i := iLocB) (by rfl) (by rw [use_locB]; exact Use.noConfusion) (by rw [use_locB]; exact credit_slot _)
      (by show Above (lvUse (useOf (dsem iLocB).val)) _; rw [use_locB]; exact above_arecv (by decide) c) ?_
    refine (turn_acc m ρ c).trans ?_
    refine step_ldown m ρ K c (by exact k0_off4_eq c) ?_
    refine step_ldw m ρ K c (s := c) (by exact k0_off5_eq c) ?_
    refine step_ldacc m ρ K c ?_
    refine step_stacc m ρ K c (g := accAt m ρ c 0) (by rfl) ?_
    exact step_ret (F := F) c
  try dsimp only
  refine step_seq (F := F) c (P' := ?_) (v := ?_) ?_ ?_
  rotate_left 2
  · simp only [k0_part19_eq_skeleton, k0_part19_skel, Prog.lift, Prog.bind_op, Prog.bind_ret, Prog.pure_eq_ret]
    refine step_wacc m ρ K c (hn := by decide) (by rfl) (by exact credit_slot _) ?_
    refine step_ldacc m ρ K c ?_
    refine step_ldblk m ρ K c (hn := by decide) (by exact off7_at c _ (by decide) (by rfl)) ?_
    refine step_ldw_src m ρ K c (hn := by decide) (by rfl) ?_
    refine step_ldacc m ρ K c ?_
    refine step_next m ρ K c (by rfl) ?_
    exact step_ret (F := F) c
  try dsimp only
  iterate 7
    refine step_seq (F := F) c (P' := ?_) (v := ?_) ?_ ?_
    rotate_left 2
    · simp only [k0_part20_eq_skeleton, k0_part20_skel, k0_part23_eq_skeleton, k0_part23_skel, k0_part26_eq_skeleton, k0_part26_skel, k0_part29_eq_skeleton, k0_part29_skel, k0_part32_eq_skeleton, k0_part32_skel, k0_part35_eq_skeleton, k0_part35_skel, k0_part38_eq_skeleton, k0_part38_skel, Prog.lift, Prog.bind_op, Prog.bind_ret, Prog.pure_eq_ret]
      refine step_wacc m ρ K c (hn := by decide) (by rfl) (by exact credit_slot _) ?_
      refine step_ldacc m ρ K c ?_
      refine step_ldblk m ρ K c (hn := by decide) (by exact off7_at c _ (by decide) (by rfl)) ?_
      refine step_ldw_src m ρ K c (hn := by decide) (by rfl) ?_
      refine step_ldacc m ρ K c ?_
      refine step_next m ρ K c (by rfl) ?_
      refine step_wacc m ρ K c (hn := by decide) (by rfl) (by exact credit_slot _) ?_
      refine step_ldacc m ρ K c ?_
      refine step_ldblk m ρ K c (hn := by decide) (by exact off7_at c _ (by decide) (by rfl)) ?_
      refine step_ldw_src m ρ K c (hn := by decide) (by rfl) ?_
      exact step_ret (F := F) c
    try dsimp only
    refine step_seq (F := F) c (P' := ?_) (v := ?_) ?_ ?_
    rotate_left 2
    · simp only [k0_part21_eq_skeleton, k0_part21_skel, k0_part24_eq_skeleton, k0_part24_skel, k0_part27_eq_skeleton, k0_part27_skel, k0_part30_eq_skeleton, k0_part30_skel, k0_part33_eq_skeleton, k0_part33_skel, k0_part36_eq_skeleton, k0_part36_skel, k0_part39_eq_skeleton, k0_part39_skel, Prog.lift, Prog.bind_op, Prog.bind_ret, Prog.pure_eq_ret]
      refine step_ldacc m ρ K c ?_
      refine step_next m ρ K c (by rfl) ?_
      refine step_wacc m ρ K c (hn := by decide) (by rfl) (by exact credit_slot _) ?_
      refine step_ldacc m ρ K c ?_
      refine step_ldblk m ρ K c (hn := by decide) (by exact off7_at c _ (by decide) (by rfl)) ?_
      refine step_ldw_src m ρ K c (hn := by decide) (by rfl) ?_
      refine step_ldacc m ρ K c ?_
      refine step_next m ρ K c (by rfl) ?_
      exact step_ret (F := F) c
    try dsimp only
    refine step_seq (F := F) c (P' := ?_) (v := ?_) ?_ ?_
    rotate_left 2
    · simp only [k0_part22_eq_skeleton, k0_part22_skel, k0_part25_eq_skeleton, k0_part25_skel, k0_part28_eq_skeleton, k0_part28_skel, k0_part31_eq_skeleton, k0_part31_skel, k0_part34_eq_skeleton, k0_part34_skel, k0_part37_eq_skeleton, k0_part37_skel, k0_part40_eq_skeleton, k0_part40_skel, Prog.lift, Prog.bind_op, Prog.bind_ret, Prog.pure_eq_ret]
      refine step_wacc m ρ K c (hn := by decide) (by rfl) (by exact credit_slot _) ?_
      refine step_ldacc m ρ K c ?_
      refine step_ldblk m ρ K c (hn := by decide) (by exact off7_at c _ (by decide) (by rfl)) ?_
      refine step_ldw_src m ρ K c (hn := by decide) (by rfl) ?_
      refine step_ldacc m ρ K c ?_
      refine step_next m ρ K c (by rfl) ?_
      exact step_ret (F := F) c
    try dsimp only
  refine step_seq (F := F) c (P' := ?_) (v := ?_) ?_ ?_
  rotate_left 2
  · simp only [k0_part41_eq_skeleton, k0_part41_skel, Prog.lift, Prog.bind_op, Prog.bind_ret, Prog.pure_eq_ret]
    refine step_wacc m ρ K c (hn := by decide) (by rfl) (by exact credit_slot _) ?_
    refine step_ldacc m ρ K c ?_
    refine step_ldblk m ρ K c (hn := by decide) (by exact off7_at c _ (by decide) (by rfl)) ?_
    refine step_ldw_src m ρ K c (hn := by decide) (by rfl) ?_
    refine step_ldacc m ρ K c ?_
    refine step_next m ρ K c (by rfl) ?_
    refine step_wacc m ρ K c (hn := by decide) (by rfl) (by exact credit_slot _) ?_
    refine step_ldacc m ρ K c ?_
    refine step_ldblk m ρ K c (hn := by decide) (by exact off7_at c _ (by decide) (by rfl)) ?_
    refine step_ldw_src m ρ K c (hn := by decide) (by rfl) ?_
    exact step_ret (F := F) c
  try dsimp only
  refine step_seq (F := F) c (P' := ?_) (v := ?_) ?_ ?_
  rotate_left 2
  · simp only [k0_part42_eq_skeleton, k0_part42_skel, Prog.lift, Prog.bind_op, Prog.bind_ret, Prog.pure_eq_ret]
    refine step_ldacc m ρ K c ?_
    refine step_next m ρ K c (by rfl) ?_
    refine step_ldacc m ρ K c ?_
    refine (turn_max m ρ c).trans ?_
    refine step_ldrow c ?_
    refine step_stmax c (g := amaxOf m ρ c) (by unfold amaxOf; rfl) ?_
    refine (turn_share m ρ c).trans ?_
    refine step_copyG m ρ K c (by rfl) (by exact grow_at (k0_off9_eq c) _) ?_
    refine turn_swap.trans ?_
    refine step_asnd m ρ K c (n := 0) (hn := by decide) (by simp only [k0_dev63_eq]) (by rfl) (by rfl) (by exact grow_at (k0_off9_eq c) _) ?_
    exact step_ret (F := F) c
  try dsimp only
  iterate 4
    refine step_seq (F := F) c (P' := ?_) (v := ?_) ?_ ?_
    rotate_left 2
    · simp only [k0_part43_eq_skeleton, k0_part43_skel, k0_part45_eq_skeleton, k0_part45_skel, k0_part47_eq_skeleton, k0_part47_skel, k0_part49_eq_skeleton, k0_part49_skel, Prog.lift, Prog.bind_op, Prog.bind_ret, Prog.pure_eq_ret]
      iterate 4 refine step_asnd m ρ K c (hn := by decide) (by simp only [k0_dev64_eq, k0_dev65_eq, k0_dev66_eq, k0_dev67_eq, k0_dev68_eq, k0_dev69_eq, k0_dev70_eq, k0_dev71_eq, k0_dev72_eq, k0_dev73_eq, k0_dev74_eq, k0_dev75_eq, k0_dev76_eq, k0_dev77_eq, k0_dev78_eq, k0_dev79_eq, k0_dev80_eq, k0_dev81_eq, k0_dev82_eq, k0_dev83_eq, k0_dev84_eq, k0_dev85_eq, k0_dev86_eq, k0_dev87_eq, k0_dev88_eq, k0_dev89_eq, k0_dev90_eq, k0_dev91_eq]) (by rfl) (by rfl) (by exact grow_at (k0_off9_eq c) _) ?_
      exact step_ret (F := F) c
    try dsimp only
    refine step_seq (F := F) c (P' := ?_) (v := ?_) ?_ ?_
    rotate_left 2
    · simp only [k0_part44_eq_skeleton, k0_part44_skel, k0_part46_eq_skeleton, k0_part46_skel, k0_part48_eq_skeleton, k0_part48_skel, k0_part50_eq_skeleton, k0_part50_skel, Prog.lift, Prog.bind_op, Prog.bind_ret, Prog.pure_eq_ret]
      iterate 3 refine step_asnd m ρ K c (hn := by decide) (by simp only [k0_dev64_eq, k0_dev65_eq, k0_dev66_eq, k0_dev67_eq, k0_dev68_eq, k0_dev69_eq, k0_dev70_eq, k0_dev71_eq, k0_dev72_eq, k0_dev73_eq, k0_dev74_eq, k0_dev75_eq, k0_dev76_eq, k0_dev77_eq, k0_dev78_eq, k0_dev79_eq, k0_dev80_eq, k0_dev81_eq, k0_dev82_eq, k0_dev83_eq, k0_dev84_eq, k0_dev85_eq, k0_dev86_eq, k0_dev87_eq, k0_dev88_eq, k0_dev89_eq, k0_dev90_eq, k0_dev91_eq]) (by rfl) (by rfl) (by exact grow_at (k0_off9_eq c) _) ?_
      exact step_ret (F := F) c
    try dsimp only
  refine step_seq (F := F) c (P' := ?_) (v := ?_) ?_ ?_
  rotate_left 2
  · simp only [k0_part51_eq_skeleton, k0_part51_skel, Prog.lift, Prog.bind_op, Prog.bind_ret, Prog.pure_eq_ret]
    iterate 2 refine step_asnd m ρ K c (hn := by decide) (by simp only [k0_dev92_eq, k0_dev93_eq]) (by rfl) (by rfl) (by exact grow_at (k0_off9_eq c) _) ?_
    refine (turn_asent m ρ c).trans ?_
    refine step_wait1 m ρ K c (i := iLocG) (by rfl) (by rw [use_locG]; exact Use.noConfusion) (by rw [use_locG]; exact credit_grow _) (Above.zero _) ?_
    refine (turn_rows m ρ c).trans ?_
    refine step_warecv m ρ K c (n := 0) (hn := by decide) (by rfl) (by exact credit_grow _) ?_
    refine step_warecv m ρ K c (hn := by decide) (by rfl) (by exact credit_grow _) ?_
    exact step_ret (F := F) c
  try dsimp only
  iterate 4
    refine step_seq (F := F) c (P' := ?_) (v := ?_) ?_ ?_
    rotate_left 2
    · simp only [k0_part52_eq_skeleton, k0_part52_skel, k0_part54_eq_skeleton, k0_part54_skel, k0_part56_eq_skeleton, k0_part56_skel, k0_part58_eq_skeleton, k0_part58_skel, Prog.lift, Prog.bind_op, Prog.bind_ret, Prog.pure_eq_ret]
      iterate 3 refine step_warecv m ρ K c (hn := by decide) (by rfl) (by exact credit_grow _) ?_
      exact step_ret (F := F) c
    try dsimp only
    refine step_seq (F := F) c (P' := ?_) (v := ?_) ?_ ?_
    rotate_left 2
    · simp only [k0_part53_eq_skeleton, k0_part53_skel, k0_part55_eq_skeleton, k0_part55_skel, k0_part57_eq_skeleton, k0_part57_skel, k0_part59_eq_skeleton, k0_part59_skel, Prog.lift, Prog.bind_op, Prog.bind_ret, Prog.pure_eq_ret]
      iterate 4 refine step_warecv m ρ K c (hn := by decide) (by rfl) (by exact credit_grow _) ?_
      exact step_ret (F := F) c
    try dsimp only
  refine step_seq (F := F) c (P' := ?_) (v := ?_) ?_ ?_
  rotate_left 2
  · simp only [k0_part60_eq_skeleton, k0_part60_skel, Prog.lift, Prog.bind_op, Prog.bind_ret, Prog.pure_eq_ret]
    refine step_warecv m ρ K c (hn := by decide) (by rfl) (by exact credit_grow _) ?_
    refine (turn_table m ρ c).trans ?_
    refine step_ldtable m ρ c ?_
    refine (turn_out m ρ c).trans ?_
    refine step_ldout c ?_
    refine step_stout c (g := outAt m ρ c) (by unfold outAt; rfl) ?_
    refine (turn_last m ρ c).trans ?_
    refine step_wsend m ρ K c (n := 0) (hn := by decide) (by rfl) (by exact credit_xrow _) ?_
    exact step_ret (F := F) c
  try dsimp only
  unfold WP
  rw [Prog.pure_eq_ret, wp_ret]
  iintro H
  imodintro
  isplitr; · ipureintro; rfl
  iexact H

/-! ## The whole body -/

set_option maxHeartbeats 2000000 in
/-- The whole body, at any device and for any float values: from the holdings laid out at the start, it ends with every wait passed and whatever follows from the holdings left. -/
theorem body_ok {fA fM fO} {T X : sProp (MT nD τ sig Unit (Elt F) ℕ UU ℕ)}
    (hX : iprop(Ctx m ρ K ∗ Fin' m ρ c 31 31 ∗ Left m ρ c ∗ T) ⊢ |={Set.univ}=> X) :
    iprop(Ctx m ρ K ∗ Sig c 0 ∗ (atPos ER (barCell c) 0 ∅ 0 ∗ cred (tallyAt (barCell c) () 31)) ∗ Start m ρ c fA fM fO T)
      ⊢ WP c (cc0_body (F := F) xM (Memref.isWhole_whole _) wM (Memref.isWhole_whole _) oM (Memref.isWhole_whole _) bM (Memref.isWhole_whole _) aM (Memref.isWhole_whole _) gM (Memref.isWhole_whole _) mM (Memref.isWhole_whole _) cc0_scratch4 cc0_scratch5 cc0_scratch6 cc0_scratch7 cc0_scratch8)
        fun _ => X := by
  rw [cc0_body_eq_skeleton]
  unfold cc0_body_skel
  refine step_known c (head_ok m ρ K c) ?_
  rintro ⟨d, w⟩ hd
  cases (show d = c from hd)
  dsimp only
  iterate 3
    refine step_seq (F := F) c (P' := ?_) (v := ?_) ?_ ?_
    rotate_left 2
    · simp only [k0_part61_eq_skeleton, k0_part61_skel, k0_part64_eq_skeleton, k0_part64_skel, k0_part67_eq_skeleton, k0_part67_skel, Prog.lift, Prog.bind_op, Prog.bind_ret, Prog.pure_eq_ret]
      refine step_wasend m ρ K c (hn := by decide) (by rfl) (by exact credit_m) ?_
      refine step_wsend m ρ K c (hn := by decide) (by rfl) (by exact credit_xrow _) ?_
      refine step_wasend m ρ K c (hn := by decide) (by rfl) (by exact credit_m) ?_
      refine step_wsend m ρ K c (hn := by decide) (by rfl) (by exact credit_xrow _) ?_
      refine step_wasend m ρ K c (hn := by decide) (by rfl) (by exact credit_m) ?_
      exact step_ret (F := F) c
    try dsimp only
    refine step_seq (F := F) c (P' := ?_) (v := ?_) ?_ ?_
    rotate_left 2
    · simp only [k0_part62_eq_skeleton, k0_part62_skel, k0_part65_eq_skeleton, k0_part65_skel, k0_part68_eq_skeleton, k0_part68_skel, Prog.lift, Prog.bind_op, Prog.bind_ret, Prog.pure_eq_ret]
      refine step_wsend m ρ K c (hn := by decide) (by rfl) (by exact credit_xrow _) ?_
      refine step_wasend m ρ K c (hn := by decide) (by rfl) (by exact credit_m) ?_
      refine step_wsend m ρ K c (hn := by decide) (by rfl) (by exact credit_xrow _) ?_
      refine step_wasend m ρ K c (hn := by decide) (by rfl) (by exact credit_m) ?_
      exact step_ret (F := F) c
    try dsimp only
    refine step_seq (F := F) c (P' := ?_) (v := ?_) ?_ ?_
    rotate_left 2
    · simp only [k0_part63_eq_skeleton, k0_part63_skel, k0_part66_eq_skeleton, k0_part66_skel, k0_part69_eq_skeleton, k0_part69_skel, Prog.lift, Prog.bind_op, Prog.bind_ret, Prog.pure_eq_ret]
      refine step_wsend m ρ K c (hn := by decide) (by rfl) (by exact credit_xrow _) ?_
      refine step_wasend m ρ K c (hn := by decide) (by rfl) (by exact credit_m) ?_
      refine step_wsend m ρ K c (hn := by decide) (by rfl) (by exact credit_xrow _) ?_
      refine step_wasend m ρ K c (hn := by decide) (by rfl) (by exact credit_m) ?_
      refine step_wsend m ρ K c (hn := by decide) (by rfl) (by exact credit_xrow _) ?_
      exact step_ret (F := F) c
    try dsimp only
  refine step_seq (F := F) c (P' := ?_) (v := ?_) ?_ ?_
  rotate_left 2
  · simp only [k0_part70_eq_skeleton, k0_part70_skel, Prog.lift, Prog.bind_op, Prog.bind_ret, Prog.pure_eq_ret]
    refine step_wasend m ρ K c (hn := by decide) (by rfl) (by exact credit_m) ?_
    refine step_wsend m ρ K c (hn := by decide) (by rfl) (by exact credit_xrow _) ?_
    refine step_wasend m ρ K c (hn := by decide) (by rfl) (by exact credit_m) ?_
    refine step_wsend m ρ K c (hn := by decide) (by rfl) (by exact credit_xrow _) ?_
    refine step_wasend m ρ K c (hn := by decide) (by rfl) (by exact credit_m) ?_
    exact step_ret (F := F) c
  try dsimp only
  refine step_seq (F := F) c (P' := ?_) (v := ?_) ?_ ?_
  rotate_left 2
  · simp only [k0_part71_eq_skeleton, k0_part71_skel, Prog.lift, Prog.bind_op, Prog.bind_ret, Prog.pure_eq_ret]
    refine step_wsend m ρ K c (hn := by decide) (by rfl) (by exact credit_xrow _) ?_
    refine step_wasend m ρ K c (hn := by decide) (by rfl) (by exact credit_m) ?_
    refine step_wsend m ρ K c (hn := by decide) (by rfl) (by exact credit_xrow _) ?_
    refine step_wasend m ρ K c (hn := by decide) (by rfl) (by exact credit_m) ?_
    exact step_ret (F := F) c
  try dsimp only
  refine step_seq (F := F) c (P' := ?_) (v := ?_) ?_ ?_
  rotate_left 2
  · simp only [k0_part72_eq_skeleton, k0_part72_skel, Prog.lift, Prog.bind_op, Prog.bind_ret, Prog.pure_eq_ret]
    refine step_wsend m ρ K c (hn := by decide) (by rfl) (by exact credit_xrow _) ?_
    refine step_wasend m ρ K c (hn := by decide) (by rfl) (by exact credit_m) ?_
    refine step_wsend m ρ K c (hn := by decide) (by rfl) (by exact credit_xrow _) ?_
    refine step_wasend m ρ K c (hn := by decide) (by rfl) (by exact credit_m) ?_
    exact step_ret (F := F) c
  try dsimp only
  refine step_seq (F := F) c (P' := ?_) (v := ?_) ?_ ?_
  rotate_left 2
  · simp only [k0_part73_eq_skeleton, k0_part73_skel, Prog.lift, Prog.bind_op, Prog.bind_ret, Prog.pure_eq_ret]
    refine step_wsend m ρ K c (hn := by decide) (by rfl) (by exact credit_xrow _) ?_
    refine step_wasend m ρ K c (hn := by decide) (by rfl) (by exact credit_m) ?_
    refine step_wsend m ρ K c (hn := by decide) (by rfl) (by exact credit_xrow _) ?_
    refine step_wasend m ρ K c (hn := by decide) (by rfl) (by exact credit_m) ?_
    refine step_wsend m ρ K c (hn := by decide) (by rfl) (by exact credit_xrow _) ?_
    exact step_ret (F := F) c
  try dsimp only
  simp only [Prog.lift, Prog.bind_op, Prog.bind_ret, Prog.pure_eq_ret]
  refine step_wasend m ρ K c (hn := by decide) (by rfl) (by exact credit_m) ?_
  unfold WP
  rw [wp_ret]
  exact hX

end Cert.Exchange

end
-- ==== Proof.Launch.lean ====
/-
# Launch: the run on all thirty-two devices

The body's account is put into the frame of the launch.  The result: from any memory with zero counters every weakly fair
run of the program ends, with the results `outAt`, the arguments unchanged and every semaphore counter at zero.
-/
module

public import Idealize.ShloMosaic.Lib.Pipeline.CollectiveSegs
public import proofs.«01_k».proof.Proof.Ends
public import proofs.«01_k».proof.Proof.Body

@[expose] public section

noncomputable section

namespace Cert.Exchange

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's view of a device -/

/-- The scratch buffers, at whatever they hold. -/
def scratch (c : Dev nD) : sProp 𝕄 :=
  iprop((∃ f, bufPts c cc0_scratch0 f) ∗ (∃ f, bufPts c cc0_scratch1 f) ∗ (∃ f, bufPts c cc0_scratch2 f) ∗ ∃ f, bufPts c cc0_scratch3 f)

/-- The arrays before and after, what the staging buffers hold after the body, and what the body starts and ends with. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => iprop(start m ρ c ∗ scratch c)
    | ⟨_ + 1, _⟩ => iprop(unscopedSems0 c ∗ Pipeline.ownSems0 osem c ∗ scratch c)
  q _ := fullShare
  owed t := match t with
    | ⟨0, _⟩ => O₀ c
    | ⟨_ + 1, _⟩ => 0

omit [FloatOps F] in
/-- A staging buffer at known contents. -/
theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A buffer that holds `X`. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is run from, -/
def before (c : Dev nD) : sProp 𝕄 :=
  iprop((start m ρ c ∗ scratch c) ∗ (dats m ρ 0 c).owesAt () t0_0.castSucc
    ∗ (∃ d, held c cc0_stg0_0 ((dats m ρ 0 c).before (0 : Fin 3) t0_0 d))
    ∗ (∃ d, held c cc0_stg1_0 ((dats m ρ 0 c).before (1 : Fin 3) t0_0 d))
    ∗ (∃ d, held c cc0_stg2_0 ((dats m ρ 0 c).before (2 : Fin 3) t0_0 d)))
/-- and what it has to leave. -/
def after (c : Dev nD) : sProp 𝕄 :=
  iprop((unscopedSems0 c ∗ Pipeline.ownSems0 osem c ∗ scratch c) ∗ (dats m ρ 0 c).owesAt () t0_0.succ
    ∗ held c cc0_stg0_0 (xstg m ρ c) ∗ held c cc0_stg1_0 (wstg m ρ c) ∗ held c cc0_stg2_0 (outAt m ρ c))

/-- What the body leaves is what it has to leave. -/
theorem done_after (c : Dev nD) : Done m ρ c ⊢ after m ρ c := by
  unfold Done after Owe scratch Dat.owesAt Pipeline.owesWithin
  rw [show (dats m ρ 0 c).owed t0_0.succ = 0 from rfl]
  iintro ⟨H, ⟨%W, HO⟩, Hx, Hw, Ho⟩
  isplitl [H]; · iexact H
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

/-- The body runs on device `c`. -/
theorem body_runs (c : Dev nD) : before m ρ c ⊢ WP c (cc0_body (F := F) xM (Memref.isWhole_whole _) wM (Memref.isWhole_whole _) oM (Memref.isWhole_whole _) bM (Memref.isWhole_whole _)
      aM (Memref.isWhole_whole _) gM (Memref.isWhole_whole _) mM (Memref.isWhole_whole _) cc0_scratch4 cc0_scratch5 cc0_scratch6 cc0_scratch7 cc0_scratch8)
    fun _ => after m ρ c := by
  unfold before start scratch Dat.owesAt Pipeline.owesWithin
  rw [show (dats m ρ 0 c).owed t0_0.castSucc = O₀ c from rfl]
  iintro ⟨⟨⟨%K, HS⟩, ⟨%f0, H0⟩, ⟨%f1, H1⟩, ⟨%f2, H2⟩, ⟨%f3, H3⟩⟩, ⟨%W, -, HO⟩, ⟨%d0, %g0, %hg0, Hx⟩, ⟨%d1, %g1, %hg1, Hw⟩, ⟨%d2, %g2, -, Ho⟩⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx; subst hw
  iapply ((lay_out m ρ c K f1 f3 g2 f0 f2).trans (body_ok m ρ K c ((wind_up m ρ K c).trans (BI.fupd_mono (done_after m ρ c)))))
  isplitl [HS]; · iexact HS
  isplitl [H0 H1 H2 H3]
  · isplitl [H0]; · iexact H0
    isplitl [H1]; · iexact H1
    isplitl [H2]; · iexact H2
    iexact H3
  isplitl [HO]
  · unfold Owe; iexists W; iexact HO
  isplitl [Hx]; · iexact Hx
  isplitl [Hw]; · iexact Hw
  iexact Ho

set_option maxRecDepth 100000 in
/-- This is what the launch asks of the body. -/
theorem body_obligation (c : Dev nD) : BodyObligation (dats (F := F) m ρ 0 c) (defs₀ (F := F)) 𝒱₀ () Set.univ := fun t => by
  rw [fin_N0 t]
  rw [bigSep_W0, bigSep_W0]
  simp only [owns_buf]
  exact body_runs m ρ c

/-! ## The launch's side conditions -/

/-- The kernel's own semaphores are all different from the staging semaphores. -/
theorem own_facts : Pipeline.OwnSemFacts cfg0.spec osem := by decide

/-- Every staging buffer is held whole. -/
theorem full_share (c : Dev nD) (w : Fin cfg0.W) : (dats m ρ 0 c).share w = fullShare := by unfold Dat.share; split <;> rfl

/-- What a device starts with, as the launch states it, -/
theorem phi_start (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scratch c) from rfl, scopedRest0_eq]
  unfold scratch
  iintro ⟨Hs, -, Hr⟩
  isplitl [Hs]; · iexact Hs
  iexact Hr

/-- and what it ends with. -/
theorem phi_end (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(unscopedSems0 c ∗ Pipeline.ownSems0 osem c ∗ scratch c) from rfl, scopedRest0_eq]
  unfold scratch
  exact Entails.refl _

/-- Everything owed at the start lies above the staging semaphores, -/
theorem above_start (c : Dev nD) : Above 0 (O₀ c) :=
  ((above_arecv (by omega) c).add (above_recv (by omega) c)).add (above_bar (by omega) c)

/-- so the staging copies may be waited for at any time. -/
theorem waits (c : Dev nD) : (levAts L lv : sProp 𝕄) ⊢ Pipeline.cellsWaits cfgs (dats m ρ) () 0 c :=
  Pipeline.cellsWaits_intro cfgs (dats m ρ) () 0 c fun w s t =>
    mayWait c _ _ (by
      have hl : ∀ O, Above 0 O → Above (lv ((c : Thread nD τ), SemLoc.dma (((cfgs 0).win w).sem s)) ()) O := fun O h => by
        rw [show lv ((c : Thread nD τ), SemLoc.dma (((cfgs 0).win w).sem s)) () = 0 from by fin_cases w <;> fin_cases s <;> rfl]; exact h
      rcases t with ⟨_ | _, ht⟩
      · exact hl _ (above_start c)
      · exact hl _ (Above.zero 0))

/-! ## The run -/

/-- What window `w`'s array on device `c` holds at the end. -/
def finalA (c : Dev nD) (w : Fin cfg0.W) : Buf (Elt F) ((cfg0.win w).arr.view.loc (c : Thread nD τ)) := (dats m ρ 0 c).arrAt w cfg0.N

set_option maxRecDepth 100000 in
/-- The run: every weakly fair execution ends, in a memory with the final arrays and every counter at zero. -/
theorem run_main : θ_run defs (onTc (τ := τ) (main (F := F))) (s₀ m ρ) (fun r => (∀ c : Dev nD, ∀ w : Fin cfg0.W, r.2.mem ((cfg0.win w).arr.view.loc (c : Thread nD τ)) = finalA m ρ c w)
    ∧ r.2.sem = fun _ => 0) :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := full_share m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (deal m ρ) $$ HX with HG
      imodintro
      isplitl [HP]; · iexact HP
      iexact HG)
    (hglob := glob m ρ)
    (hA := fun _ _ => rfl) (hpf := fun _ k => k.elim0)
    (X := start m ρ) (Y := fun c => unscopedSems0 c) (Z := fun _ => iprop(emp))
    (hX := start_intro m ρ) (hin := phi_start m ρ) (hout := phi_end m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The arguments end as they began. -/
theorem final_x (c : Dev nD) : finalA m ρ c (0 : Fin 3) = (s₀ m ρ).mem (win0_0.arr.view.loc (c : Thread nD τ)) :=
  (dats (F := F) m ρ 0 c).arrAt_in (0 : Fin 3) rfl _
/-- This is so of `w`, too. -/
theorem final_w (c : Dev nD) : finalA m ρ c (1 : Fin 3) = (s₀ m ρ).mem (win0_1.arr.view.loc (c : Thread nD τ)) :=
  (dats (F := F) m ρ 0 c).arrAt_in (1 : Fin 3) rfl _

end Cert.Exchange

end
-- ==== Proof.Frames.lean ====
/-
# Frames: the programs end, and what they leave

The kernel, at any reading of its numbers, ends with the arguments as they were, the result computed and every counter at
zero.  The kernel that runs on bits is the same program.  The reference declares no semaphore.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Claim

@[expose] public section

noncomputable section

namespace Cert.Exchange

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The result array ends holding the result. -/
theorem final_o (c : Dev nD) : finalA m ρ c (2 : Fin 3) = outAt m ρ c := by
  have hz : (fun a => (win0_2.index (0 : Fin 1)) a * main_v1.ty.shape.size a) = fun _ => 0 :=
    funext fun a => by fin_cases a <;> decide
  have h : (win0_2.blk (0 : Fin 1)).view.read (Elt F) (finalA m ρ c (2 : Fin 3)) = outAt m ρ c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (Memref.read_access_unit_zero (Elt F) main_v1 hz (fun a => by fin_cases a <;> decide) _).symm.trans h

/-- The run, read at the arguments and the result. -/
theorem run_read : θ_run defs (onTc (τ := τ) (main (F := F))) ⟨m, fun _ => 0, ρ⟩ (fun r => (∀ c : Dev nD,
    r.2.mem ((c : Thread nD τ).loc main_v1) = outAt m ρ c
    ∧ r.2.mem ((c : Thread nD τ).loc main_arg0) = m ((c : Thread nD τ).loc main_arg0)
    ∧ r.2.mem ((c : Thread nD τ).loc main_arg1) = m ((c : Thread nD τ).loc main_arg1))
    ∧ r.2.sem = fun _ => 0) :=
  (θ_run defs _ _).mono (fun r h => ⟨fun c => ⟨(h.1 c (2 : Fin 3)).trans (final_o m ρ c), (h.1 c (0 : Fin 3)).trans (final_x m ρ c),
    (h.1 c (1 : Fin 3)).trans (final_w m ρ c)⟩, h.2⟩) (run_main m ρ)

/-- The kernel on extended reals ends, its arguments unchanged and its counters at zero. -/
theorem frame_ideal : Cert.quiescent_KernelIdeal := fun m g _ =>
  (θ_run defs _ _).mono (fun _ h => ⟨fun c => (h.1 c).2, h.2⟩) (run_read (F := Ideal) m g)

/-! ## The two programs are one -/

/-- The kernel on bits and the kernel on extended reals have the same bodies, -/
theorem same_bodies : Cert.Kernel.defs₀ (F := F) = Cert.KernelIdeal.defs₀ (F := F) := by
  unfold Cert.Kernel.defs₀ Cert.KernelIdeal.defs₀
  refine congrArg Defs.onTc (funext fun l => ?_)
  match l with
  | ⟨0, _⟩ => exact funext fun ⟨t, s⟩ => rfl
/-- hence the same table of bodies, -/
theorem same_table : Cert.Kernel.defs (F := F) = Cert.KernelIdeal.defs (F := F) :=
  congrArg (Pipeline.defs Cert.KernelIdeal.pcfgs) same_bodies
/-- and the same main program. -/
theorem same_main : Cert.Kernel.main (F := F) = Cert.KernelIdeal.main (F := F) := rfl

/-- The kernel on bits ends, too, with its arguments unchanged and its counters at zero. -/
theorem run_bits (m : (ℓ : Loc nD τ sig) → Buf (Elt Bits) ℓ) (ρ : Dev nD → PrngReg) :
    θ_run (Cert.KernelIdeal.defs (F := Bits)) (onTc (τ := τ) (Cert.KernelIdeal.main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run_read (F := Bits) m ρ)

/-- This is what is claimed of it. -/
theorem frame_bits : Cert.quiescent_Kernel := by
  intro m ρ _
  rw [same_table, same_main]
  exact run_bits m ρ

/-- The reference ends, its arguments unchanged; it has no counters. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Exchange

end
-- ==== Proof.Peak.lean ====
/-
# Peak: the largest entry of an array of extended reals

A maximum over all the axes of an array, the kernel's and the host's, is the least upper bound of the entries.  It does
not depend on how the array is cut or folded.
-/
module

public import proofs.«01_k».proof.Proof.Gen.KernelIdeal
public import proofs.«01_k».proof.Proof.Gen.ReferenceIdeal
public import Idealize.ShloMosaic.PureOps.Ideal.Laws
public import Idealize.ShloMosaic.PureOps.Reduce

@[expose] public section

noncomputable section

namespace Cert.Quant

open Idealize.ShloMosaic

/-- The least upper bound of the entries. -/
def peak {ι : Type} (v : ι → EReal) : EReal := ⨆ i, v i

/-- Renaming the entries one to one keeps the peak. -/
theorem peak_equiv {ι κ : Type} (e : ι ≃ κ) (v : κ → EReal) : peak (fun i => v (e i)) = peak v :=
  e.iSup_comp (g := v)

/-- Folding `max` over all entries, from the bottom, gives the peak. -/
theorem fold_max {ι : Type} [Fintype ι] (v : ι → EReal) : Finset.univ.fold max (⊥ : EReal) v = peak v :=
  Finset.sup_univ_eq_iSup v

/-- The word of minus infinity reads as the bottom. -/
theorem word_bot : (Ideal.ofBits .f32 0xFF800000#32 : EReal) = ⊥ := by
  simp [Ideal.ofBits, Ideal.ieee]

/-- The kernel's maximum over the axes of an array, when one entry remains. -/
theorem reduce_kernel {s t : Shape} {axes : List (Fin s.rank)} [Subsingleton t.Idx] (v : FVec Ideal s .f32)
    (h : s.Reduces axes t) (hφ : FKind.Formats .f32) (hacc : 0xFF800000#32 = FKind.maximumf.neutral .f32 hφ) (j : t.Idx) :
    multiReduction .maximumf axes t v 0xFF800000#32 h hφ hacc j = peak v := by
  rw [multiReduction_maximumf_eq_fold, Finset.filter_true_of_mem fun i _ => Subsingleton.elim _ _]
  refine Eq.trans ?_ (fold_max v)
  exact congrArg (fun b => Finset.univ.fold max b v) word_bot

/-- The host's maximum over the axes of an array, when one entry remains. -/
theorem reduce_host {s t u : Shape} {axes : List (Fin s.rank)} [Subsingleton t.Idx] (v : FVec Ideal s .f32)
    (h : s.ReducesTo axes t) (hu : 0 < u.numel) (j : t.Idx) :
    Host.reduce FloatOps.maximumf v (constant u .f32 0xFF800000#32) h hu j = peak v := by
  rw [Host.reduce_eq_fold, Finset.filter_true_of_mem fun i _ => Subsingleton.elim _ _]
  refine Eq.trans ?_ (fold_max v)
  exact congrArg (fun b => Finset.univ.fold max b v) word_bot

end Cert.Quant

end
-- ==== Proof.Payloads.lean ====
/-
# Payloads: what the kernel stores, read at an entry

At the extended reals the four stored values are: a product of a block of `x` with rows of `w`; that product added to
what was there; the largest absolute value, repeated along a row; and the quantised result.
-/
module

public import proofs.«01_k».proof.Proof.Peak
public import proofs.«01_k».proof.Proof.Gen.KernelIdeal.Skeleton
public import Idealize.ShloMosaic.Lib.Pointwise

@[expose] public section

noncomputable section

namespace Cert.Quant

open Idealize.ShloMosaic
open Cert.KernelIdeal Cert.KernelIdeal.Gen

/-- One entry of the result, from the product's entry `y` and the largest absolute value `g`: `y` is divided by the scale
    `g / 127`, rounded to the nearest integer, kept between -127 and 127, and multiplied by the scale. -/
def quantise (y g : EReal) : EReal :=
  min (Ideal.ofBits .f32 0x42FE0000#32)
      (max (Ideal.ofBits .f32 0xC2FE0000#32) (Ideal.liftRound Ideal.roundHalfEven (Ideal.div y (Ideal.div g (Ideal.ofBits .f32 0x42FE0000#32)))))
    * Ideal.div g (Ideal.ofBits .f32 0x42FE0000#32)

/-- The absolute value. -/
def size (y : EReal) : EReal := max y (-y)

/-- The first stored product. -/
theorem first_apply (b : Vec Ideal S1x128x128 .f32) (w : Vec Ideal S128x2048 .f32) (i : Fin 128) (j : Fin 2048) :
    k0_pay1 b w (ix2 i j) = ∑ k : Fin 128, b (ix3 0 i k) * w (ix2 k j) := by
  pointwise [k0_pay1]

/-- A later stored sum. -/
theorem next_apply (a : Vec Ideal S128x2048 .f32) (b : Vec Ideal S1x128x128 .f32) (w : Vec Ideal S128x2048 .f32) (i : Fin 128) (j : Fin 2048) :
    k0_pay2 a b w (ix2 i j) = a (ix2 i j) + ∑ k : Fin 128, b (ix3 0 i k) * w (ix2 k j) := by
  pointwise [k0_pay2]

/-- One index is all there is. -/
theorem one_index : Subsingleton S1.Idx := ⟨fun a b => funext fun x => by fin_cases x; exact Subsingleton.elim (α := Fin 1) _ _⟩

/-- The largest absolute value, as the kernel takes it. -/
theorem largest_size (a : FVec Ideal S128x2048 .f32) (hφ : FKind.Formats .f32) (hacc : 0xFF800000#32 = FKind.maximumf.neutral .f32 hφ) (j : S1.Idx) :
    multiReduction .maximumf [1, 2] S1 (shapeCast S1x128x2048 (absf a) shapeCasts_S128x2048_S1x128x2048) 0xFF800000#32 reduces_S1x128x2048_S1 hφ hacc j
      = peak fun j => size (a j) :=
  haveI := one_index
  (reduce_kernel _ _ _ _ _).trans (peak_equiv (Shape.reshapeEquiv shapeCasts_S128x2048_S1x128x2048) fun j => size (a j))

/-- The table's largest entry, as the kernel takes it. -/
theorem largest_entry (t : FVec Ideal S32x128 .f32) (hφ : FKind.Formats .f32) (hacc : 0xFF800000#32 = FKind.maximumf.neutral .f32 hφ) (j : S1.Idx) :
    multiReduction .maximumf [1, 2] S1 (shapeCast S1x32x128 t shapeCasts_S32x128_S1x32x128) 0xFF800000#32 reduces_S1x32x128_S1 hφ hacc j = peak t :=
  haveI := one_index
  (reduce_kernel _ _ _ _ _).trans (peak_equiv (Shape.reshapeEquiv shapeCasts_S32x128_S1x32x128) t)

/-- Repeating the one entry of an array along a row. -/
theorem repeated (M : FVec Ideal S1 .f32) (i : S1x128.Idx) :
    shapeCast S1x128 (broadcast S1x128 (extractAt ![0, 0, 0] (shapeCast S1x1x1 M shapeCasts_S1_S1x1x1) inpos_S1x1x1_p0_0_0)) shapeCasts_S1x128_S1x128 i
      = M (Shape.reshapeEquiv shapeCasts_S1_S1x1x1 fun x => ⟨(![0, 0, 0] : Fin 3 → Nat) x, inpos_S1x1x1_p0_0_0 x⟩) := rfl

/-- The row of maxima: in every place the largest absolute value. -/
theorem maxima_apply (a : Vec Ideal S128x2048 .f32) (i : S1x128.Idx) : k0_pay49 a i = peak fun j => size (a j) := by
  unfold k0_pay49
  exact (repeated _ i).trans (largest_size a _ _ _)

/-- The result: every entry of the sum quantised by the largest entry of the table. -/
theorem result_apply (a : Vec Ideal S128x2048 .f32) (t : Vec Ideal S32x128 .f32) (i : S128x2048.Idx) :
    k0_pay50 a t i = quantise (a i) (peak t) :=
  congrArg (quantise (a i)) (largest_entry t (.inl rfl) rfl _)

end Cert.Quant

end
-- ==== Proof.Product.lean ====
/-
# Product: the accumulated sum is a row block of the whole product

Device `c` adds up 32 products, its own first and then one per arrival.  Each is the part of a row block of `x @ w` that
comes from 128 of the 4096 columns of `x`.  Sums of extended reals may be taken in any order, so together they are row
block `c` of `x @ w`.
-/
module

public import proofs.«01_k».proof.Proof.Places
public import proofs.«01_k».proof.Proof.Payloads
public import Idealize.ShloMosaic.Lib.Layout

@[expose] public section

noncomputable section

namespace Cert.Quant

open Cert.KernelIdeal Cert.KernelIdeal.Gen Cert.Exchange
open Idealize.ShloMosaic
open Idealize.ShloMosaic.TcCoe
open Idealize.SL.Sem

/-- The shapes of the whole arrays. -/
abbrev SX : Shape := ⟨2, ![4096, 4096]⟩
/-- The shape of `w`, and of the result. -/
abbrev SY : Shape := ⟨2, ![4096, 2048]⟩

/-- The product of the whole arrays. -/
def whole (X : SX.Idx → EReal) (W : SY.Idx → EReal) : SY.Idx → EReal :=
  fun i => ∑ k : Fin 4096, X (ix2 (i 0) k) * W (ix2 k (i 1))

/-- Number `i` of block `c`, in the whole. -/
def place (c : Dev nD) (i : Fin 128) : Fin 4096 := ⟨c.val * 128 + i.val, by have h := c.isLt; simp only [nD] at h; omega⟩

/-- Summing block by block sums over the whole. -/
theorem sum_blocks (f : Fin 4096 → EReal) : ∑ s : Dev nD, ∑ k : Fin 128, f (place s k) = ∑ k, f k := by
  rw [← Fintype.sum_prod_type' (fun s k => f (place s k))]
  refine Fintype.sum_bijective (fun p : Fin 32 × Fin 128 => place p.1 p.2) ⟨fun p q h => ?_, fun k => ?_⟩ _ _ fun _ => rfl
  · have h := congrArg Fin.val h
    have h1 := p.2.isLt; have h2 := q.2.isLt
    simp only [place] at h
    exact Prod.ext (Fin.ext (by omega)) (Fin.ext (by omega))
  · have h := k.isLt
    exact ⟨(⟨k.val / 128, by omega⟩, ⟨k.val % 128, by omega⟩), Fin.ext (by simp only [place]; omega)⟩

/-- The device itself and its 31 sources are all the devices. -/
theorem sum_sources (c : Dev nD) (g : Dev nD → EReal) : g c + ∑ r ∈ Finset.range 31, g (src c r) = ∑ s, g s := by
  have hc : src c 31 = c := Fin.ext (by have := c.isLt; simp only [nD] at *; simp only [src]; omega)
  have hi : Function.Injective fun r : Fin 32 => src c r.val := fun r r' h => by
    have := congrArg Fin.val h; have := c.isLt; have := r.isLt; have := r'.isLt
    refine Fin.ext ?_; simp only [nD] at *; simp only [src] at *; omega
  calc g c + ∑ r ∈ Finset.range 31, g (src c r) = ∑ r ∈ Finset.range 32, g (src c r) := by
        rw [Finset.sum_range_succ _ 31, hc, add_comm]
    _ = ∑ r : Fin 32, g (src c r.val) := (Fin.sum_univ_eq_sum_range (fun r => g (src c r)) 32).symm
    _ = ∑ s, g s := Fintype.sum_bijective _ (Finite.injective_iff_bijective.mp hi) _ _ fun _ => rfl

variable (m : (ℓ : Loc nD τ sig) → Buf (Elt Ideal) ℓ) (ρ : Dev nD → PrngReg)
variable (X : SX.Idx → EReal) (W : SY.Idx → EReal)

/-- Every device holds its column block of `X`, and the whole of `W`. -/
structure Holds : Prop where
  x : ∀ c : Dev nD, m ((c.tc : Thread nD τ).loc main_arg0) = Layout.block ⟨2, ![4096, 128]⟩ ⟨2, ![4096, 4096]⟩ 1 32 c X
  w : ∀ c : Dev nD, m ((c.tc : Thread nD τ).loc main_arg1) = W

variable {m ρ X W}

/-- Staging `x` copies the whole buffer, -/
theorem xstg_eq (c : Dev nD) : xstg m ρ c = m ((c.tc : Thread nD τ).loc main_arg0) :=
  Memref.read_access_unit_zero (Elt Ideal) main_arg0
    (show (fun a => (win0_0.index (0 : Fin 1)) a * main_arg0.ty.shape.size a) = fun _ => 0 from funext fun a => by fin_cases a <;> decide)
    (fun a => by fin_cases a <;> decide) _
/-- and so does staging `w`. -/
theorem wstg_eq (c : Dev nD) : wstg m ρ c = m ((c.tc : Thread nD τ).loc main_arg1) :=
  Memref.read_access_unit_zero (Elt Ideal) main_arg1
    (show (fun a => (win0_1.index (0 : Fin 1)) a * main_arg1.ty.shape.size a) = fun _ => 0 from funext fun a => by fin_cases a <;> decide)
    (fun a => by fin_cases a <;> decide) _

/-- What device `c` reads in slot `s`: rows of block `c`, columns of block `s`. -/
theorem blk_apply (h : Holds m X W) (c s : Dev nD) (i k : Fin 128) :
    blkVal m ρ c s (ix3 0 i k) = X (ix2 (place c i) (place s k)) := by
  have e : (bR s).emb (ix3 (0 : Fin 1) i k) = ix3 (n0 := 32) ⟨s.val, s.isLt⟩ i k := by
    funext a
    refine Fin.ext ((ValueKit.rect_emb_unit_val _ _ (inb_b s) _ a).trans ?_)
    fin_cases a
    · rfl
    · show 0 + i.val = i.val; omega
    · show 0 + k.val = k.val; omega
  refine (congrArg (blocks m ρ c) e).trans ?_
  unfold blocks
  rw [xstg_eq]
  refine (congrFun (h.x s) _).trans (congrArg X ?_)
  funext a
  refine Fin.ext ((Layout.Tiles.idx_val _ _ _ _).trans ?_)
  fin_cases a
  · show 128 * c.val + i.val = c.val * 128 + i.val; omega
  · rfl

/-- The rows of `w` that go with it. -/
theorem w_apply (h : Holds m X W) (c s : Dev nD) (k : Fin 128) (j : Fin 2048) :
    wVal m ρ c s (ix2 k j) = W (ix2 (place s k) j) := by
  have e : (wR s).emb (ix2 k j) = ix2 (place s k) j := by
    funext a
    refine Fin.ext ((ValueKit.rect_emb_unit_val _ _ (inb_w s) _ a).trans ?_)
    fin_cases a
    · show 128 * s.val + k.val = s.val * 128 + k.val; omega
    · show 0 + j.val = j.val; omega
  refine (congrArg (wstg m ρ c) e).trans ?_
  rw [wstg_eq]
  exact congrFun (h.w c) _

/-- The part of the product that comes from the columns of block `s`. -/
def part (X : SX.Idx → EReal) (W : SY.Idx → EReal) (c : Dev nD) (i : Fin 128) (j : Fin 2048) (s : Dev nD) : EReal :=
  ∑ k : Fin 128, X (ix2 (place c i) (place s k)) * W (ix2 (place s k) j)

/-- It is what the kernel computes from slot `s`. -/
theorem part_eq (h : Holds m X W) (c s : Dev nD) (i : Fin 128) (j : Fin 2048) :
    ∑ k : Fin 128, blkVal m ρ c s (ix3 0 i k) * wVal m ρ c s (ix2 k j) = part X W c i j s :=
  Finset.sum_congr rfl fun k _ => by rw [blk_apply h, w_apply h]

/-- The sum after `n` arrivals. -/
theorem acc_apply (h : Holds m X W) (c : Dev nD) (i : Fin 128) (j : Fin 2048) (n : ℕ) :
    accAt m ρ c n (ix2 i j) = part X W c i j c + ∑ r ∈ Finset.range n, part X W c i j (src c r) := by
  induction n with
  | zero => exact ((first_apply _ _ i j).trans (part_eq h c c i j)).trans (add_zero _).symm
  | succ n ih =>
    rw [Finset.sum_range_succ, ← add_assoc, ← ih]
    exact (next_apply _ _ _ i j).trans (congrArg _ (part_eq h c (src c n) i j))

/-- The sum after all arrivals is row block `c` of the product. -/
theorem acc_eq (h : Holds m X W) (c : Dev nD) : accAt m ρ c 31 = Layout.block ⟨2, ![128, 2048]⟩ ⟨2, ![4096, 2048]⟩ 0 32 c (whole X W) := by
  funext i
  obtain ⟨a, b, rfl⟩ : ∃ (a : Fin 128) (b : Fin 2048), i = ix2 a b := ⟨_, _, eq_ix2 i⟩
  rw [acc_apply h, sum_sources c]
  exact sum_blocks fun k => X (ix2 (place c a) k) * W (ix2 k b)

end Cert.Quant

end
-- ==== Proof.Equation.lean ====
/-
# Equation: the kernel's results are the blocks of the reference's result

Both programs quantise the product by its largest absolute value.  The largest of the devices' largest values is the
largest of all, so every device uses the scale that the reference uses.
-/
module

public import proofs.«01_k».proof.Proof.Product
public import proofs.«01_k».proof.Proof.Gen.ReferenceIdeal
public import Idealize.ShloMosaic.Lib.StackMember

@[expose] public section

noncomputable section

namespace Cert.Quant

open Cert.KernelIdeal Cert.KernelIdeal.Gen Cert.Exchange
open Idealize.ShloMosaic
open Idealize.ShloMosaic.TcCoe
open Idealize.SL.Sem

variable {m : (ℓ : Loc nD τ sig) → Buf (Elt Ideal) ℓ} {ρ : Dev nD → PrngReg}
variable {X : SX.Idx → EReal} {W : SY.Idx → EReal}

/-- The quantised product. -/
def quantised (X : SX.Idx → EReal) (W : SY.Idx → EReal) : SY.Idx → EReal :=
  fun i => quantise (whole X W i) (peak fun j => size (whole X W j))

/-- Row block `c` of an array. -/
abbrev rowBlock (c : Dev nD) (v : SY.Idx → EReal) : S128x2048.Idx → EReal := Layout.block ⟨2, ![128, 2048]⟩ ⟨2, ![4096, 2048]⟩ 0 32 c v

/-- Every entry lies in a row block. -/
theorem exists_block (v : SY.Idx → EReal) (i : SY.Idx) : ∃ (c : Dev nD) (j : S128x2048.Idx), rowBlock c v j = v i := by
  have h : (i 0).val < 4096 := (i 0).isLt
  refine ⟨⟨(i 0).val / 128, by simp only [nD]; omega⟩, ix2 (⟨(i 0).val % 128, Nat.mod_lt _ (by decide)⟩ : Fin 128) (i 1), congrArg v ?_⟩
  funext a
  refine Fin.ext ((Layout.Tiles.idx_val _ _ _ _).trans ?_)
  fin_cases a
  · show (i 0).val / 128 * 128 + (i 0).val % 128 = (i 0).val; omega
  · rfl

/-- The largest of the row blocks' largest values is the largest of all. -/
theorem peak_blocks (v : SY.Idx → EReal) : peak (fun t : S32x128.Idx => peak (rowBlock ⟨(t 0).val, (t 0).isLt⟩ v)) = peak v := by
  unfold peak
  refine le_antisymm (iSup_le fun t => iSup_le fun j => le_iSup v _) (iSup_le fun i => ?_)
  obtain ⟨c, j, hj⟩ := exists_block v i
  rw [← hj]
  exact le_iSup_of_le (ix2 (⟨c.val, c.isLt⟩ : Fin 32) (0 : Fin 128)) (le_iSup (rowBlock c v) j)

/-- An entry of the table of maxima. -/
theorem table_apply (t : S32x128.Idx) : table m ρ t = peak fun j => size (accAt m ρ ⟨(t 0).val, (t 0).isLt⟩ 31 j) := by
  unfold table rows amaxOf
  exact maxima_apply _ _

/-- The table's largest entry is the product's largest absolute value. -/
theorem table_peak (h : Holds m X W) : peak (table m ρ) = peak fun j => size (whole X W j) := by
  rw [← peak_blocks fun j => size (whole X W j)]
  refine congrArg peak (funext fun t => ?_)
  rw [table_apply, acc_eq h]
  rfl

/-- Device `c`'s result is row block `c` of the quantised product. -/
theorem out_eq (h : Holds m X W) (c : Dev nD) : outAt m ρ c = rowBlock c (quantised X W) := by
  funext i
  unfold outAt
  rw [result_apply, table_peak h, acc_eq h]
  rfl

/-! ## The reference -/

/-- The reference's product. -/
theorem host_product (X : FVec Ideal SX .f32) (W : FVec Ideal SY .f32) :
    Host.dotGeneral Cert.ReferenceIdeal.dot_S4096x4096_S4096x2048_S4096x2048_1_0_0_1_n_n none X W = whole X W := by
  funext i
  obtain ⟨a, b, rfl⟩ : ∃ (a : Fin 4096) (b : Fin 2048), i = ix2 a b := ⟨_, _, eq_ix2 i⟩
  have h := StackMember.dotGeneral_plain_apply none X W a b
  simp only [← ix2_eq_valueIdx] at h
  exact h

/-- The reference's largest absolute value. -/
theorem host_peak (v : FVec Ideal SY .f32) (j) :
    Host.reduce FloatOps.maximumf (Host.absf v) (constant Cert.ReferenceIdeal.S_ .f32 0xFF800000#32) Cert.ReferenceIdeal.Facts₀.reducesTo_S4096x2048_S_d0_1 Cert.ReferenceIdeal.Facts₀.h_S_ j
      = peak fun j => size (v j) :=
  haveI : Subsingleton Cert.ReferenceIdeal.S_.Idx := ⟨fun a b => funext fun x => x.elim0⟩
  reduce_host _ _ _ j

/-- The scale, the quotient and the clipped integer, entry by entry: the reference's result is the quantised product. -/
theorem host_quantise (Y : FVec Ideal SY .f32) (g : FVec Ideal Cert.ReferenceIdeal.S_ .f32) (G : EReal) (hg : ∀ j, g j = G) (i : SY.Idx) :
    mulf (minimumf (broadcastInDim Cert.ReferenceIdeal.S4096x2048 ![] Cert.ReferenceIdeal.Facts₀.bcast_S_S4096x2048 (id (constant Cert.ReferenceIdeal.S_ .f32 0x42FE0000#32)))
        (maximumf (broadcastInDim Cert.ReferenceIdeal.S4096x2048 ![] Cert.ReferenceIdeal.Facts₀.bcast_S_S4096x2048 (id (constant Cert.ReferenceIdeal.S_ .f32 0xC2FE0000#32)))
          (Host.roundeven (Host.divf Y (broadcastInDim Cert.ReferenceIdeal.S4096x2048 ![] Cert.ReferenceIdeal.Facts₀.bcast_S_S4096x2048 (Host.divf g (constant Cert.ReferenceIdeal.S_ .f32 0x42FE0000#32)))))))
      (broadcastInDim Cert.ReferenceIdeal.S4096x2048 ![] Cert.ReferenceIdeal.Facts₀.bcast_S_S4096x2048 (Host.divf g (constant Cert.ReferenceIdeal.S_ .f32 0x42FE0000#32))) i
      = quantise (Y i) G := by
  rw [← hg fun x => x.elim0]
  exact congrArg (fun z => quantise (Y i) (g z)) (funext fun x => x.elim0)

end Cert.Quant

end
-- ==== Proof.Algebraic.lean ====
/-
# Algebraic: over the extended reals, device `c`'s result is row block `c` of the reference's result

The kernel's run and the reference's run are read at their results; both are the quantised product.
-/
module

public import proofs.«01_k».proof.Proof.Frames
public import proofs.«01_k».proof.Proof.Equation
public import proofs.«01_k».proof.Proof.Gen.ReferenceIdeal.Run

@[expose] public section

noncomputable section

namespace Cert.Quant

open Cert.Exchange
open Idealize.ShloMosaic
open Idealize.SL.Sem

/-- The reference ends with the quantised product in its result and its arguments unchanged. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      r.2.mem (((0 : Dev Cert.ReferenceIdeal.nD).tc : Thread Cert.ReferenceIdeal.nD Cert.ReferenceIdeal.τ).loc Cert.ReferenceIdeal.main_v9)
          = quantised (m (((0 : Dev Cert.ReferenceIdeal.nD).tc : Thread Cert.ReferenceIdeal.nD Cert.ReferenceIdeal.τ).loc Cert.ReferenceIdeal.main_arg0))
              (m (((0 : Dev Cert.ReferenceIdeal.nD).tc : Thread Cert.ReferenceIdeal.nD Cert.ReferenceIdeal.τ).loc Cert.ReferenceIdeal.main_arg1))
      ∧ r.2.mem (((0 : Dev Cert.ReferenceIdeal.nD).tc : Thread Cert.ReferenceIdeal.nD Cert.ReferenceIdeal.τ).loc Cert.ReferenceIdeal.main_arg0)
          = m (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1)
          = m (((0 : Dev Cert.ReferenceIdeal.nD).tc : Thread Cert.ReferenceIdeal.nD Cert.ReferenceIdeal.τ).loc Cert.ReferenceIdeal.main_arg1)) := by
  refine (θ_run Cert.ReferenceIdeal.defs _ _).mono (fun r h => ?_) (Cert.ReferenceIdeal.Value.run (F := Ideal) m ρ)
  obtain ⟨hv, hx, hw⟩ := h 0
  refine ⟨hv.trans (funext fun i => ?_), hx, hw⟩
  refine (host_quantise _ _ _ (fun j => host_peak _ j) i).trans ?_
  rw [host_product]
  rfl

/-- Device `c`'s result is row block `c` of the reference's result. -/
theorem algebraic : Cert.algebraic_KernelIdeal_ReferenceIdeal := fun m ρ m' ρ' _ hagree =>
  ⟨_, (θ_run Cert.KernelIdeal.defs _ _).mono
      (fun _ h c => ⟨(h.1 c).1.trans (out_eq ⟨fun c => (hagree c).1, fun c => (hagree c).2⟩ c), (h.1 c).2⟩) (run_read (F := Ideal) m ρ),
    reference_run m' ρ'⟩

end Cert.Quant

end
-- ==== Proof.lean ====
/-
# The certificate

The kernel on bits, the kernel on extended reals and the reference each end without a fault, with their arguments
unchanged and every counter at zero; the kernel on extended reals is the kernel itself; and device `c`'s result is row
block `c` of the reference's result.
-/
module

public import proofs.«01_k».proof.Defs
public import proofs.«01_k».proof.Proof.Frames
public import proofs.«01_k».proof.Proof.Algebraic

@[expose] public section

noncomputable section

namespace Cert.Proof

/-- Everything that is claimed: the three frames, that the idealized program is the kernel, and the equation. -/
theorem claim : Cert.Claim :=
  ⟨Cert.Kernel.Gen.facts, Cert.KernelIdeal.Gen.facts, Cert.ReferenceIdeal.Gen.facts,
    Cert.Exchange.frame_bits, Cert.Exchange.frame_ideal, Cert.Exchange.frame_reference, trivial, Cert.Quant.algebraic⟩

end Cert.Proof

end
